-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x128x128 : Shape := ⟨4, ![8, 96, 128, 128]⟩
abbrev S96x96x3x3 : Shape := ⟨4, ![96, 96, 3, 3]⟩
abbrev S96 : Shape := ⟨1, ![96]⟩
abbrev S9x96x1x1 : Shape := ⟨4, ![9, 96, 1, 1]⟩
abbrev S9 : Shape := ⟨1, ![9]⟩
abbrev S36x96x1x1 : Shape := ⟨4, ![36, 96, 1, 1]⟩
abbrev S36 : Shape := ⟨1, ![36]⟩
abbrev S96x3x3x96 : Shape := ⟨4, ![96, 3, 3, 96]⟩
abbrev S96x864 : Shape := ⟨2, ![96, 864]⟩
abbrev S9x96 : Shape := ⟨2, ![9, 96]⟩
abbrev S_ : Shape := ⟨0, ![]⟩
abbrev S7x96 : Shape := ⟨2, ![7, 96]⟩
abbrev S36x96 : Shape := ⟨2, ![36, 96]⟩
abbrev S4x96 : Shape := ⟨2, ![4, 96]⟩
abbrev S56x96 : Shape := ⟨2, ![56, 96]⟩
abbrev S7 : Shape := ⟨1, ![7]⟩
abbrev S4 : Shape := ⟨1, ![4]⟩
abbrev S152 : Shape := ⟨1, ![152]⟩
abbrev S152x1 : Shape := ⟨2, ![152, 1]⟩
abbrev S152x128 : Shape := ⟨2, ![152, 128]⟩
abbrev S8x9x128x128 : Shape := ⟨4, ![8, 9, 128, 128]⟩
abbrev S8x36x128x128 : Shape := ⟨4, ![8, 36, 128, 128]⟩
abbrev S1x96x128x128 : Shape := ⟨4, ![1, 96, 128, 128]⟩
abbrev S1x9x128x128 : Shape := ⟨4, ![1, 9, 128, 128]⟩
abbrev S1x36x128x128 : Shape := ⟨4, ![1, 36, 128, 128]⟩
abbrev S864x16384 : Shape := ⟨2, ![864, 16384]⟩
abbrev S96x1 : Shape := ⟨2, ![96, 1]⟩
abbrev S56x1 : Shape := ⟨2, ![56, 1]⟩
abbrev S96x16384 : Shape := ⟨2, ![96, 16384]⟩
abbrev S96x128x128 : Shape := ⟨3, ![96, 128, 128]⟩
abbrev S96x16383 : Shape := ⟨2, ![96, 16383]⟩
abbrev S96x128 : Shape := ⟨2, ![96, 128]⟩
abbrev S96x16256 : Shape := ⟨2, ![96, 16256]⟩
abbrev S56x16384 : Shape := ⟨2, ![56, 16384]⟩
abbrev S9x16384 : Shape := ⟨2, ![9, 16384]⟩
abbrev S36x16384 : Shape := ⟨2, ![36, 16384]⟩

abbrev nBuf : Space → Nat
  | .hbm => 27
  | .vmem => 10
  | .smem => 0
  | _ => 0

abbrev bufTy : (tb : Table) → Fin (tcTables nBuf tb) → BufTy
  | .hbm, ⟨0, _⟩ => ⟨S8x96x128x128, .f32⟩
  | .hbm, ⟨1, _⟩ => ⟨S96x96x3x3, .f32⟩
  | .hbm, ⟨2, _⟩ => ⟨S96, .f32⟩
  | .hbm, ⟨3, _⟩ => ⟨S9x96x1x1, .f32⟩
  | .hbm, ⟨4, _⟩ => ⟨S9, .f32⟩
  | .hbm, ⟨5, _⟩ => ⟨S36x96x1x1, .f32⟩
  | .hbm, ⟨6, _⟩ => ⟨S36, .f32⟩
  | .hbm, ⟨7, _⟩ => ⟨S96x3x3x96, .f32⟩
  | .hbm, ⟨8, _⟩ => ⟨S96x864, .f32⟩
  | .hbm, ⟨9, _⟩ => ⟨S96x864, .bf16⟩
  | .hbm, ⟨10, _⟩ => ⟨S9x96, .f32⟩
  | .hbm, ⟨11, _⟩ => ⟨S_, .f32⟩
  | .hbm, ⟨12, _⟩ => ⟨S7x96, .f32⟩
  | .hbm, ⟨13, _⟩ => ⟨S36x96, .f32⟩
  | .hbm, ⟨14, _⟩ => ⟨S_, .f32⟩
  | .hbm, ⟨15, _⟩ => ⟨S4x96, .f32⟩
  | .hbm, ⟨16, _⟩ => ⟨S56x96, .f32⟩
  | .hbm, ⟨17, _⟩ => ⟨S56x96, .bf16⟩
  | .hbm, ⟨18, _⟩ => ⟨S_, .f32⟩
  | .hbm, ⟨19, _⟩ => ⟨S7, .f32⟩
  | .hbm, ⟨20, _⟩ => ⟨S_, .f32⟩
  | .hbm, ⟨21, _⟩ => ⟨S4, .f32⟩
  | .hbm, ⟨22, _⟩ => ⟨S152, .f32⟩
  | .hbm, ⟨23, _⟩ => ⟨S152x1, .f32⟩
  | .hbm, ⟨24, _⟩ => ⟨S152x128, .f32⟩
  | .hbm, ⟨25, _⟩ => ⟨S8x9x128x128, .f32⟩
  | .hbm, ⟨26, _⟩ => ⟨S8x36x128x128, .f32⟩
  | .local _ .vmem, ⟨0, _⟩ => ⟨S1x96x128x128, .f32⟩
  | .local _ .vmem, ⟨1, _⟩ => ⟨S1x96x128x128, .f32⟩
  | .local _ .vmem, ⟨2, _⟩ => ⟨S96x864, .bf16⟩
  | .local _ .vmem, ⟨3, _⟩ => ⟨S56x96, .bf16⟩
  | .local _ .vmem, ⟨4, _⟩ => ⟨S152x128, .f32⟩
  | .local _ .vmem, ⟨5, _⟩ => ⟨S1x9x128x128, .f32⟩
  | .local _ .vmem, ⟨6, _⟩ => ⟨S1x9x128x128, .f32⟩
  | .local _ .vmem, ⟨7, _⟩ => ⟨S1x36x128x128, .f32⟩
  | .local _ .vmem, ⟨8, _⟩ => ⟨S1x36x128x128, .f32⟩
  | .local _ .vmem, ⟨9, _⟩ => ⟨S864x16384, .bf16⟩
  | _, _ => ⟨S8x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_cst : Ref sig .tc := ⟨.hbm, 11, rfl⟩
abbrev main_call0_v4 : Ref sig .tc := ⟨.hbm, 12, rfl⟩
abbrev main_call0_v5 : Ref sig .tc := ⟨.hbm, 13, rfl⟩
abbrev main_call0_cst_0 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_cst_1 : Ref sig .tc := ⟨.hbm, 18, rfl⟩
abbrev main_call0_v9 : Ref sig .tc := ⟨.hbm, 19, rfl⟩
abbrev main_call0_cst_2 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_v0_0 : Ref sig .tc := ⟨.hbm, 25, rfl⟩
abbrev main_v0_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x96x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x864 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x9x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x36x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x96x128x128 : Shape := ⟨4, ![8, 96, 128, 128]⟩
abbrev S96x96x3x3 : Shape := ⟨4, ![96, 96, 3, 3]⟩
abbrev S96 : Shape := ⟨1, ![96]⟩
abbrev S9x96x1x1 : Shape := ⟨4, ![9, 96, 1, 1]⟩
abbrev S9 : Shape := ⟨1, ![9]⟩
abbrev S36x96x1x1 : Shape := ⟨4, ![36, 96, 1, 1]⟩
abbrev S36 : Shape := ⟨1, ![36]⟩
abbrev S_ : Shape := ⟨0, ![]⟩
abbrev S8x96x130x130 : Shape := ⟨4, ![8, 96, 130, 130]⟩
abbrev S96x96x1x1 : Shape := ⟨4, ![96, 96, 1, 1]⟩
abbrev S96x96 : Shape := ⟨2, ![96, 96]⟩
abbrev S8x128x128x96 : Shape := ⟨4, ![8, 128, 128, 96]⟩
abbrev S1x96x1x1 : Shape := ⟨4, ![1, 96, 1, 1]⟩
abbrev S9x96 : Shape := ⟨2, ![9, 96]⟩
abbrev S8x128x128x9 : Shape := ⟨4, ![8, 128, 128, 9]⟩
abbrev S8x9x128x128 : Shape := ⟨4, ![8, 9, 128, 128]⟩
abbrev S1x9x1x1 : Shape := ⟨4, ![1, 9, 1, 1]⟩
abbrev S36x96 : Shape := ⟨2, ![36, 96]⟩
abbrev S8x128x128x36 : Shape := ⟨4, ![8, 128, 128, 36]⟩
abbrev S8x36x128x128 : Shape := ⟨4, ![8, 36, 128, 128]⟩
abbrev S1x36x1x1 : Shape := ⟨4, ![1, 36, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S8x96x128x128, .f32⟩
  | .hbm, ⟨1, _⟩ => ⟨S96x96x3x3, .f32⟩
  | .hbm, ⟨2, _⟩ => ⟨S96, .f32⟩
  | .hbm, ⟨3, _⟩ => ⟨S9x96x1x1, .f32⟩
  | .hbm, ⟨4, _⟩ => ⟨S9, .f32⟩
  | .hbm, ⟨5, _⟩ => ⟨S36x96x1x1, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S8x96x130x130, .f32⟩
  | .hbm, ⟨10, _⟩ => ⟨S_, .f32⟩
  | .hbm, ⟨11, _⟩ => ⟨S8x96x128x128, .f32⟩
  | .hbm, ⟨12, _⟩ => ⟨S96x96x1x1, .f32⟩
  | .hbm, ⟨13, _⟩ => ⟨S96x96, .f32⟩
  | .hbm, ⟨14, _⟩ => ⟨S8x96x128x128, .f32⟩
  | .hbm, ⟨15, _⟩ => ⟨S8x128x128x96, .f32⟩
  | .hbm, ⟨16, _⟩ => ⟨S8x96x128x128, .f32⟩
  | .hbm, ⟨17, _⟩ => ⟨S8x96x128x128, .f32⟩
  | .hbm, ⟨18, _⟩ => ⟨S96x96x1x1, .f32⟩
  | .hbm, ⟨19, _⟩ => ⟨S96x96, .f32⟩
  | .hbm, ⟨20, _⟩ => ⟨S8x96x128x128, .f32⟩
  | .hbm, ⟨21, _⟩ => ⟨S8x128x128x96, .f32⟩
  | .hbm, ⟨22, _⟩ => ⟨S8x96x128x128, .f32⟩
  | .hbm, ⟨23, _⟩ => ⟨S8x96x128x128, .f32⟩
  | .hbm, ⟨24, _⟩ => ⟨S96x96x1x1, .f32⟩
  | .hbm, ⟨25, _⟩ => ⟨S96x96, .f32⟩
  | .hbm, ⟨26, _⟩ => ⟨S8x96x128x128, .f32⟩
  | .hbm, ⟨27, _⟩ => ⟨S8x128x128x96, .f32⟩
  | .hbm, ⟨28, _⟩ => ⟨S8x96x128x128, .f32⟩
  | .hbm, ⟨29, _⟩ => ⟨S8x96x128x128, .f32⟩
  | .hbm, ⟨30, _⟩ => ⟨S96x96x1x1, .f32⟩
  | .hbm, ⟨31, _⟩ => ⟨S96x96, .f32⟩
  | .hbm, ⟨32, _⟩ => ⟨S8x96x128x128, .f32⟩
  | .hbm, ⟨33, _⟩ => ⟨S8x128x128x96, .f32⟩
  | .hbm, ⟨34, _⟩ => ⟨S8x96x128x128, .f32⟩
  | .hbm, ⟨35, _⟩ => ⟨S8x96x128x128, .f32⟩
  | .hbm, ⟨36, _⟩ => ⟨S96x96x1x1, .f32⟩
  | .hbm, ⟨37, _⟩ => ⟨S96x96, .f32⟩
  | .hbm, ⟨38, _⟩ => ⟨S8x96x128x128, .f32⟩
  | .hbm, ⟨39, _⟩ => ⟨S8x128x128x96, .f32⟩
  | .hbm, ⟨40, _⟩ => ⟨S8x96x128x128, .f32⟩
  | .hbm, ⟨41, _⟩ => ⟨S8x96x128x128, .f32⟩
  | .hbm, ⟨42, _⟩ => ⟨S96x96x1x1, .f32⟩
  | .hbm, ⟨43, _⟩ => ⟨S96x96, .f32⟩
  | .hbm, ⟨44, _⟩ => ⟨S8x96x128x128, .f32⟩
  | .hbm, ⟨45, _⟩ => ⟨S8x128x128x96, .f32⟩
  | .hbm, ⟨46, _⟩ => ⟨S8x96x128x128, .f32⟩
  | .hbm, ⟨47, _⟩ => ⟨S8x96x128x128, .f32⟩
  | .hbm, ⟨48, _⟩ => ⟨S96x96x1x1, .f32⟩
  | .hbm, ⟨49, _⟩ => ⟨S96x96, .f32⟩
  | .hbm, ⟨50, _⟩ => ⟨S8x96x128x128, .f32⟩
  | .hbm, ⟨51, _⟩ => ⟨S8x128x128x96, .f32⟩
  | .hbm, ⟨52, _⟩ => ⟨S8x96x128x128, .f32⟩
  | .hbm, ⟨53, _⟩ => ⟨S8x96x128x128, .f32⟩
  | .hbm, ⟨54, _⟩ => ⟨S96x96x1x1, .f32⟩
  | .hbm, ⟨55, _⟩ => ⟨S96x96, .f32⟩
  | .hbm, ⟨56, _⟩ => ⟨S8x96x128x128, .f32⟩
  | .hbm, ⟨57, _⟩ => ⟨S8x128x128x96, .f32⟩
  | .hbm, ⟨58, _⟩ => ⟨S8x96x128x128, .f32⟩
  | .hbm, ⟨59, _⟩ => ⟨S8x96x128x128, .f32⟩
  | .hbm, ⟨60, _⟩ => ⟨S96x96x1x1, .f32⟩
  | .hbm, ⟨61, _⟩ => ⟨S96x96, .f32⟩
  | .hbm, ⟨62, _⟩ => ⟨S8x96x128x128, .f32⟩
  | .hbm, ⟨63, _⟩ => ⟨S8x128x128x96, .f32⟩
  | .hbm, ⟨64, _⟩ => ⟨S8x96x128x128, .f32⟩
  | .hbm, ⟨65, _⟩ => ⟨S8x96x128x128, .f32⟩
  | .hbm, ⟨66, _⟩ => ⟨S1x96x1x1, .f32⟩
  | .hbm, ⟨67, _⟩ => ⟨S8x96x128x128, .f32⟩
  | .hbm, ⟨68, _⟩ => ⟨S8x96x128x128, .f32⟩
  | .hbm, ⟨69, _⟩ => ⟨S_, .f32⟩
  | .hbm, ⟨70, _⟩ => ⟨S8x96x128x128, .f32⟩
  | .hbm, ⟨71, _⟩ => ⟨S8x96x128x128, .f32⟩
  | .hbm, ⟨72, _⟩ => ⟨S9x96, .f32⟩
  | .hbm, ⟨73, _⟩ => ⟨S8x128x128x9, .f32⟩
  | .hbm, ⟨74, _⟩ => ⟨S8x9x128x128, .f32⟩
  | .hbm, ⟨75, _⟩ => ⟨S1x9x1x1, .f32⟩
  | .hbm, ⟨76, _⟩ => ⟨S8x9x128x128, .f32⟩
  | .hbm, ⟨77, _⟩ => ⟨S8x9x128x128, .f32⟩
  | .hbm, ⟨78, _⟩ => ⟨S8x9x128x128, .f32⟩
  | .hbm, ⟨79, _⟩ => ⟨S8x9x128x128, .f32⟩
  | .hbm, ⟨80, _⟩ => ⟨S_, .f32⟩
  | .hbm, ⟨81, _⟩ => ⟨S8x9x128x128, .f32⟩
  | .hbm, ⟨82, _⟩ => ⟨S8x9x128x128, .f32⟩
  | .hbm, ⟨83, _⟩ => ⟨S_, .f32⟩
  | .hbm, ⟨84, _⟩ => ⟨S8x9x128x128, .f32⟩
  | .hbm, ⟨85, _⟩ => ⟨S8x9x128x128, .f32⟩
  | .hbm, ⟨86, _⟩ => ⟨S36x96, .f32⟩
  | .hbm, ⟨87, _⟩ => ⟨S8x128x128x36, .f32⟩
  | .hbm, ⟨88, _⟩ => ⟨S8x36x128x128, .f32⟩
  | .hbm, ⟨89, _⟩ => ⟨S1x36x1x1, .f32⟩
  | .hbm, ⟨90, _⟩ => ⟨S8x36x128x128, .f32⟩
  | .hbm, ⟨91, _⟩ => ⟨S8x36x128x128, .f32⟩
  | _, _ => ⟨S8x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_0 : Ref sig .tc := ⟨.hbm, 80, rfl⟩
abbrev main_v68 : Ref sig .tc := ⟨.hbm, 81, rfl⟩
abbrev main_v69 : Ref sig .tc := ⟨.hbm, 82, rfl⟩
abbrev main_cst_1 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩

abbrev nD : Nat := 1
abbrev τ : Topo := Topo.v7x

variable {F : FTy → Type} [FloatOps F]
-- ==== Proof.Ideal.Body.lean ====
/- One grid step of the kernel, on any staging buffers: what the body leaves in its two output buffers, as the lists of
   blocks it stored. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S1x96x128x128 .f32) (h1 : arg1.IsWhole)
  (arg2 : Memref sig .tc .vmem S96x864 .bf16) (h2 : arg2.IsWhole)
  (arg3 : Memref sig .tc .vmem S56x96 .bf16) (h3 : arg3.IsWhole)
  (arg4 : Memref sig .tc .vmem S152x128 .f32) (h4 : arg4.IsWhole)
  (arg5 : Memref sig .tc .vmem S1x9x128x128 .f32) (h5 : arg5.IsWhole)
  (arg6 : Memref sig .tc .vmem S1x36x128x128 .f32) (h6 : arg6.IsWhole)
  (arg7 : Memref sig .tc .vmem S864x16384 .bf16) (h7 : arg7.IsWhole)
  (x0 : Vec F S1x96x128x128 .f32) (x1 : Vec F S96x864 .bf16) (x2 : Vec F S56x96 .bf16) (x3 : Vec F S152x128 .f32)

/-- The four input buffers at their contents. -/
def inputs : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3)

set_option maxHeartbeats 1000000 in
/-- The body from the inputs at `x0 … x3` and the outputs and the scratch at anything: it ends with the inputs as they
    were and the stored blocks `LC` (scores), `LR` (regression) and `LS` (scratch) written. The lists are what the run
    of the body finds. -/
noncomputable def run :
    Σ' (LC : List (View.Piece (Elt F) S1x9x128x128 .f32)) (LR : List (View.Piece (Elt F) S1x36x128x128 .f32)),
      { LS : List (View.Piece (Elt F) S864x16384 .bf16) // ∀ (E : Set ℕ) (K : PUnit → sProp 𝕄),
        iprop(inputs c arg1 arg2 arg3 arg4 x0 x1 x2 x3
            ∗ (∃ d, owns (c : Thread nD τ) arg5 fullShare d) ∗ (∃ d, owns (c : Thread nD τ) arg6 fullShare d)
            ∗ (∃ d, owns (c : Thread nD τ) arg7 fullShare d)
            ∗ (iprop(inputs c arg1 arg2 arg3 arg4 x0 x1 x2 x3
                ∗ (∃ f, arg5.view.loc (c : Thread nD τ) ↦[arg5.view.set]{fullShare} arg5.view.writes (Elt F) f LC)
                ∗ (∃ f, arg6.view.loc (c : Thread nD τ) ↦[arg6.view.set]{fullShare} arg6.view.writes (Elt F) f LR)
                ∗ (∃ f, arg7.view.loc (c : Thread nD τ) ↦[arg7.view.set]{fullShare} arg7.view.writes (Elt F) f LS))
              -∗ K ⟨⟩))
          ⊢ wp frame (wpE (defs₀ (F := F)) Variants.none c none) E
              (cc0__rpn_kernel i arg1 h1 arg2 h2 arg3 h3 arg4 h4 arg5 h5 arg6 h6 arg7 h7) K } := by
  refine ⟨?_, ?_, ?_, fun E K => ?run⟩
  case run =>
    simp only [cc0__rpn_kernel_eq_skeleton]; unfold cc0__rpn_kernel_skel
    simp only [k0_part3_eq_skeleton, k0_part1_eq_skeleton, k0_part2_eq_skeleton]
    unfold inputs owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%ds, %fs, -, HS⟩, Hk⟩
    obtain rfl := h1.eq_unread hf0; obtain rfl := h2.eq_unread hf1
    obtain rfl := h3.eq_unread hf2; obtain rfl := h4.eq_unread hf3
    sl_exec
    sl_step
    iapply Hk
    isplitl [H0 H1 H2 H3]
    · isplitl [H0]
      · iexists _; isplitr
        · ipureintro; exact h1.read_unread _
        iexact H0
      isplitl [H1]
      · iexists _; isplitr
        · ipureintro; exact h2.read_unread _
        iexact H1
      isplitl [H2]
      · iexists _; isplitr
        · ipureintro; exact h3.read_unread _
        iexact H2
      iexists _; isplitr
      · ipureintro; exact h4.read_unread _
      iexact H3
    isplitl [H4]
    · iexists _; iexact H4
    isplitl [H5]
    · iexists _; iexact H5
    iexists _; iexact HS

/-- The blocks stored into the score buffer cover it. -/
theorem cover_cls (y : S1x9x128x128.Idx) :
    ∃ pc ∈ (run c i arg1 h1 arg2 h2 arg3 h3 arg4 h4 arg5 h5 arg6 h6 arg7 h7 x0 x1 x2 x3).1, y ∈ pc.1.set :=
  View.cover_of_tiledL (run c i arg1 h1 arg2 h2 arg3 h3 arg4 h4 arg5 h5 arg6 h6 arg7 h7 x0 x1 x2 x3).1
    S1x9x128x128.size (by sl_kernel_rfl) y

/-- The blocks stored into the regression buffer cover it. -/
theorem cover_reg (y : S1x36x128x128.Idx) :
    ∃ pc ∈ (run c i arg1 h1 arg2 h2 arg3 h3 arg4 h4 arg5 h5 arg6 h6 arg7 h7 x0 x1 x2 x3).2.1, y ∈ pc.1.set :=
  View.cover_of_tiledL (run c i arg1 h1 arg2 h2 arg3 h3 arg4 h4 arg5 h5 arg6 h6 arg7 h7 x0 x1 x2 x3).2.1
    S1x36x128x128.size (by sl_kernel_rfl) y

end Cert.KernelIdeal.Step

end
-- ==== Proof.Ideal.Launch.lean ====
/- The launch: what the grid finds in the buffers when the host has prepared its operands, what each grid step leaves in
   the two result blocks, and the run of the whole program. -/
module

public import proofs.«01_k».proof.Proof.Ideal.Body
public import Idealize.ShloMosaic.Lib.Claim

@[expose] public section

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the grid starts -/

/-- Device `c`'s buffers after the host operations before the grid. -/
abbrev V (c : Dev nD) (b : Ref sig .tc) : Buf (Elt F) ((c : Thread nD τ).loc b) :=
  StableHlo.after hostOps0 (fun b => m (c, b)) b

/-- No host operation asks for fresh names. -/
theorem host_fresh : (hostOps0 : List (HloOp τ sig (Elt F))).Forall fun op => op.fresh = ∅ := by
  simp only [List.Forall]; repeat' constructor

set_option maxHeartbeats 800000 in
/-- The program up to the grid is those host operations. -/
theorem host_prefix : Pipeline.HMain (Ix := Unit) (Name := ℕ) (U := UR sig nD τ) (Lvl := ℕ) cfgs 0 defs₀ Variants.none m
    (main (F := F)) (V m) :=
  Pipeline.hmain_prefix cfgs 0 defs₀ Variants.none m main hostOps0 hostOps0_sub host_fresh main_chain

/-- The program's arguments. -/
def params : List (Ref sig .tc) := [main_arg0, main_arg1, main_arg2, main_arg3, main_arg4, main_arg5, main_arg6]

set_option maxHeartbeats 1000000 in
/-- No host operation writes an argument. -/
theorem host_avoids {b : Ref sig .tc} (hb : b ∈ params) :
    (hostOps0 : List (HloOp τ sig (Elt F))).Forall fun op => Proc.devRef .tc b ∉ op.writes := by
  simp only [hostOps0, List.Forall, StableHlo.nullary_writes, StableHlo.unary_writes, StableHlo.reshape_writes,
    StableHlo.nary_writes, Finset.mem_singleton]
  simp only [params, List.mem_cons, List.not_mem_nil, or_false] at hb
  rcases hb with rfl | rfl | rfl | rfl | rfl | rfl | rfl <;> (repeat' apply And.intro) <;>
    exact StableHlo.devRef_ne_of_ne (by decide)

/-- The grid finds each argument as launched. -/
theorem V_param (c : Dev nD) {b : Ref sig .tc} (hb : b ∈ params) : V m c b = m ((c : Thread nD τ).loc b) :=
  StableHlo.after_of_forall_not_mem (b := Proc.devRef .tc b) _ _ (List.forall_iff_forall_mem.mp (host_avoids hb))

/-! ## One step of the grid -/

/-- Window `w`'s block at step `t`, of its array as the grid finds it. -/
def block (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The staging buffers of step `t`, and that each is a whole buffer. -/
abbrev b0 (t : Fin cfg0.N) : Memref sig .tc .vmem S1x96x128x128 .f32 := win0_0.stage (cfg0.slots t 0)
abbrev w0 (t : Fin cfg0.N) : (b0 t).IsWhole := hstage0_0 ((cfg0.slots t 0).cast nbuf0_0)
abbrev b1 (t : Fin cfg0.N) : Memref sig .tc .vmem S96x864 .bf16 := win0_1.stage (cfg0.slots t 1)
abbrev w1 (t : Fin cfg0.N) : (b1 t).IsWhole := hstage0_1 ((cfg0.slots t 1).cast nbuf0_1)
abbrev b2 (t : Fin cfg0.N) : Memref sig .tc .vmem S56x96 .bf16 := win0_2.stage (cfg0.slots t 2)
abbrev w2 (t : Fin cfg0.N) : (b2 t).IsWhole := hstage0_2 ((cfg0.slots t 2).cast nbuf0_2)
abbrev b3 (t : Fin cfg0.N) : Memref sig .tc .vmem S152x128 .f32 := win0_3.stage (cfg0.slots t 3)
abbrev w3 (t : Fin cfg0.N) : (b3 t).IsWhole := hstage0_3 ((cfg0.slots t 3).cast nbuf0_3)
abbrev b4 (t : Fin cfg0.N) : Memref sig .tc .vmem S1x9x128x128 .f32 := win0_4.stage (cfg0.slots t 4)
abbrev w4 (t : Fin cfg0.N) : (b4 t).IsWhole := hstage0_4 ((cfg0.slots t 4).cast nbuf0_4)
abbrev b5 (t : Fin cfg0.N) : Memref sig .tc .vmem S1x36x128x128 .f32 := win0_5.stage (cfg0.slots t 5)
abbrev w5 (t : Fin cfg0.N) : (b5 t).IsWhole := hstage0_5 ((cfg0.slots t 5).cast nbuf0_5)
/-- The scratch buffer. -/
abbrev bs : Memref sig .tc .vmem S864x16384 .bf16 := Memref.whole cc0_scratch0

/-- The body's run at step `t`. -/
abbrev runAt (c : Dev nD) (t : Fin cfg0.N) :=
  run (F := F) c (grid0.coords t) (b0 t) (w0 t) (b1 t) (w1 t) (b2 t) (w2 t) (b3 t) (w3 t) (b4 t) (w4 t) (b5 t) (w5 t)
    bs (Memref.isWhole_whole _) (block m c 0 t) (block m c 1 t) (block m c 2 t) (block m c 3 t)

/-- The score block step `t` leaves. -/
def scores (c : Dev nD) (t : Fin cfg0.N) : Vec F S1x9x128x128 .f32 := View.canon (runAt m c t).1
/-- The regression block step `t` leaves. -/
def boxes (c : Dev nD) (t : Fin cfg0.N) : Vec F S1x36x128x128 .f32 := View.canon (runAt m c t).2.1

/-- What the grid's arrays hold at the start, and each window's buffer after each step. -/
def dats (_ : Fin 1) (c : Dev nD) : Dat τ (Elt F) Unit ℕ (UR sig nD τ) ℕ cfg0 c where
  A w := V m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => scores m c t
    | ⟨5, _⟩ => boxes m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = block m c 3 t := by dsimp only [dats]
theorem after_4 (c : Dev nD) (t : Fin cfg0.N) : (dats m 0 c).after 4 t = scores m c t := by dsimp only [dats]
theorem after_5 (c : Dev nD) (t : Fin cfg0.N) : (dats m 0 c).after 5 t = boxes m c t := by dsimp only [dats]

/-- Before each step every input buffer holds its block. -/
theorem before_0 (c : Dev nD) (t : Fin cfg0.N) (d) : (dats m 0 c).before 0 t d = block m c 0 t :=
  ((dats m 0 c).before_in_eq_fetched 0 rfl (fun _ => rfl) (fun _ _ _ => rfl)
    (fun t => by rw [after_0]; unfold Dat.blockOf block; rw [A_eq]) t d).trans
    (by unfold Dat.fetched Dat.blockOf block; rw [A_eq]; rfl)
theorem before_1 (c : Dev nD) (t : Fin cfg0.N) (d) : (dats m 0 c).before 1 t d = block m c 1 t :=
  ((dats m 0 c).before_in_eq_fetched 1 rfl (fun _ => rfl) (fun _ _ _ => rfl)
    (fun t => by rw [after_1]; unfold Dat.blockOf block; rw [A_eq]) t d).trans
    (by unfold Dat.fetched Dat.blockOf block; rw [A_eq]; rfl)
theorem before_2 (c : Dev nD) (t : Fin cfg0.N) (d) : (dats m 0 c).before 2 t d = block m c 2 t :=
  ((dats m 0 c).before_in_eq_fetched 2 rfl (fun _ => rfl) (fun _ _ _ => rfl)
    (fun t => by rw [after_2]; unfold Dat.blockOf block; rw [A_eq]) t d).trans
    (by unfold Dat.fetched Dat.blockOf block; rw [A_eq]; rfl)
theorem before_3 (c : Dev nD) (t : Fin cfg0.N) (d) : (dats m 0 c).before 3 t d = block m c 3 t :=
  ((dats m 0 c).before_in_eq_fetched 3 rfl (fun _ => rfl) (fun _ _ _ => rfl)
    (fun t => by rw [after_3]; unfold Dat.blockOf block; rw [A_eq]) t d).trans
    (by unfold Dat.fetched Dat.blockOf block; rw [A_eq]; rfl)

/-- What the body owns beside its windows: the scratch buffer at some contents, and the generator register. -/
theorem owned_rest (c : Dev nD) :
    (Pipeline.ΦA spec0 c : sProp 𝕄)
      = iprop(iprop((∃ d, owns (c : Thread nD τ) bs fullShare d)) ∗ (∃ r, prngReg c r)) := by
  unfold Pipeline.ΦA; rw [scopedRest0_eq]; simp only [bs, owns_whole]; try rfl

/-- What a step starts from. -/
def stepPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d)))

/-- What a step ends with. -/
def stepPost (c : Dev nD) (t : Fin cfg0.N) : sProp 𝕄 :=
  iprop((dats m 0 c).Φ t.succ ∗ (dats m 0 c).owesAt () t.succ
    ∗ owns (c : Thread nD τ) (b0 t) fullShare ((dats m 0 c).after 0 t)
    ∗ owns (c : Thread nD τ) (b1 t) fullShare ((dats m 0 c).after 1 t)
    ∗ owns (c : Thread nD τ) (b2 t) fullShare ((dats m 0 c).after 2 t)
    ∗ owns (c : Thread nD τ) (b3 t) fullShare ((dats m 0 c).after 3 t)
    ∗ owns (c : Thread nD τ) (b4 t) fullShare ((dats m 0 c).after 4 t)
    ∗ owns (c : Thread nD τ) (b5 t) fullShare ((dats m 0 c).after 5 t))

/-- Each step meets its contract. -/
theorem step (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, owned_rest]
  iintro ⟨⟨HS, Hg⟩, Ho, ⟨%d0, H0⟩, ⟨%d1, H1⟩, ⟨%d2, H2⟩, ⟨%d3, H3⟩, ⟨%d4, H4⟩, ⟨%d5, H5⟩⟩
  iapply ((runAt m c t).2.2.2 Set.univ _)
  unfold inputs
  isplitl [H0 H1 H2 H3]
  · isplitl [H0]; · iexact H0
    isplitl [H1]; · iexact H1
    isplitl [H2]; · iexact H2
    iexact H3
  isplitl [H4]; · iexists _; iexact H4
  isplitl [H5]; · iexists _; iexact H5
  isplitl [HS]; · iexact HS
  iintro ⟨⟨H0, H1, H2, H3⟩, ⟨%e4, H4⟩, ⟨%e5, H5⟩, ⟨%es, HS⟩⟩
  isplitl [HS Hg]
  · isplitl [HS]
    · iexists _; unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover_cls c _ _ _ _ _ _ _ _ _ _ _ _ _ _ _ _ _ _ _)
  unfold owns; iexists _; isplitr
  swap; · iexact H5
  ipureintro; exact View.read_writes_eq_canon _ _ _ (cover_reg c _ _ _ _ _ _ _ _ _ _ _ _ _ _ _ _ _ _ _)

/-- The body as the grid calls it is the body at the step's buffers. -/
theorem body_row (t : Fin cfg0.N) : defs₀ (F := F) .tc cfg0.body (cfg0.bodyArgs t (cfg0.slots t)) = bodyAt0 t := by
  unfold defs₀; rw [Defs.onTc_tc]

/-- Every step meets the grid's contract. -/
theorem steps (c : Dev nD) : BodyObligation (dats (F := F) m 0 c) (defs₀ (F := F)) Variants.none () Set.univ := fun t => by
  rw [bigSep_W0, bigSep_W0, body_row]
  exact triple_restated (step m c t) rfl .rfl fun _ => .rfl

/-! ## The whole program -/

set_option backward.isDefEq.respectTransparency.types false in
/-- The program terminates with the grid's arrays as its steps leave them, every other buffer as the grid found it, and
    every semaphore counter at zero. -/
theorem launch : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (steps m c).loose) (hshare := fun c => (dats m 0 c).share_full fun _ => rfl)
    (howed := fun _ _ => rfl) (V := V m) (hmain := host_prefix m) (hA := A_eq m) (hΦ := fun _ _ => rfl)

/-- The argument arrays of device `c` are unchanged in memory `x`. -/
def Kept (x : (ℓ : Loc nD τ sig) → Buf (Elt F) ℓ) (c : Dev nD) : Prop :=
  x ((c.tc : Thread nD τ).loc main_arg0) = m ((c.tc : Thread nD τ).loc main_arg0)
  ∧ x ((c.tc : Thread nD τ).loc main_arg1) = m ((c.tc : Thread nD τ).loc main_arg1)
  ∧ x ((c.tc : Thread nD τ).loc main_arg2) = m ((c.tc : Thread nD τ).loc main_arg2)
  ∧ x ((c.tc : Thread nD τ).loc main_arg3) = m ((c.tc : Thread nD τ).loc main_arg3)
  ∧ x ((c.tc : Thread nD τ).loc main_arg4) = m ((c.tc : Thread nD τ).loc main_arg4)
  ∧ x ((c.tc : Thread nD τ).loc main_arg5) = m ((c.tc : Thread nD τ).loc main_arg5)
  ∧ x ((c.tc : Thread nD τ).loc main_arg6) = m ((c.tc : Thread nD τ).loc main_arg6)

/-- An argument that no window stages ends as launched. -/
theorem kept_rest {r : PUnit × MemSt nD τ sig (Elt F)} (h : Pipeline.FramePost cfgs (dats m) 0 (V m) r) (c : Dev nD)
    {b : Ref sig .tc} (hb : b ∈ params) (hr : b ∈ Pipeline.restRefs sig spec0) :
    r.2.mem ((c.tc : Thread nD τ).loc b) = m ((c.tc : Thread nD τ).loc b) :=
  ((h c).2 b hr).trans (V_param m c hb)

/-- After the run every argument is as launched. -/
theorem kept {r : PUnit × MemSt nD τ sig (Elt F)} (h : Pipeline.FramePost cfgs (dats m) 0 (V m) r) (c : Dev nD) :
    Kept m r.2.mem c :=
  ⟨((h c).1 0).trans (((dats m 0 c).arrAt_in 0 rfl _).trans ((A_eq m c 0).trans (V_param m c (by decide)))),
    kept_rest m h c (b := main_arg1) (by decide) (Pipeline.mem_restRefs_of _ (by decide) (by decide)),
    kept_rest m h c (b := main_arg2) (by decide) (Pipeline.mem_restRefs_of _ (by decide) (by decide)),
    kept_rest m h c (b := main_arg3) (by decide) (Pipeline.mem_restRefs_of _ (by decide) (by decide)),
    kept_rest m h c (b := main_arg4) (by decide) (Pipeline.mem_restRefs_of _ (by decide) (by decide)),
    kept_rest m h c (b := main_arg5) (by decide) (Pipeline.mem_restRefs_of _ (by decide) (by decide)),
    kept_rest m h c (b := main_arg6) (by decide) (Pipeline.mem_restRefs_of _ (by decide) (by decide))⟩

/-- The program terminates with its arguments unchanged and every semaphore counter at zero. -/
theorem frame : θ_run defs (onTc (τ := τ) (main (F := F))) ⟨m, fun _ => 0, ρ⟩
    (fun r => (∀ c : Dev nD, Kept m r.2.mem c) ∧ r.2.sem = fun _ => 0) :=
  (θ_run defs _ _).mono (fun _ h => ⟨kept m h.1, h.2⟩) (launch m ρ)

end Cert.KernelIdeal.Step

end
-- ==== Proof.Spec.lean ====
/- The mathematics of the region proposal head: a 3×3 convolution of a zero-bordered image, a rectifier, and 1×1
   convolutions of the result, over the extended reals. -/
module

public import Idealize.ShloMosaic.Lib.ValueIdx
public import Idealize.ShloMosaic.PureOps.Ideal

@[expose] public section

noncomputable section

namespace Cert.Rpn

/-- The pixel of `f` at row `i` and column `j` of the image with a border of one zero on every side. -/
def bordered (f : Fin 128 → Fin 128 → EReal) (i j : ℕ) : EReal :=
  if h : (1 ≤ i ∧ i < 129) ∧ (1 ≤ j ∧ j < 129) then f ⟨i - 1, by omega⟩ ⟨j - 1, by omega⟩ else 0

theorem bordered_inside (f : Fin 128 → Fin 128 → EReal) {i j : ℕ} (hi : 1 ≤ i) (hi' : i < 129) (hj : 1 ≤ j) (hj' : j < 129) :
    bordered f i j = f ⟨i - 1, by omega⟩ ⟨j - 1, by omega⟩ := dif_pos ⟨⟨hi, hi'⟩, hj, hj'⟩

theorem bordered_outside (f : Fin 128 → Fin 128 → EReal) {i j : ℕ} (h : ¬((1 ≤ i ∧ i < 129) ∧ (1 ≤ j ∧ j < 129))) :
    bordered f i j = 0 := dif_neg h

/-- Tap `t` of the 3×3 window over row `i`, column `j`: row `t / 3`, column `t % 3` of the window, summed over the input
    channels. `x` is the image by channel, row and column, `w` one output channel's weights by input channel and tap. -/
def tap (x : Fin 96 → Fin 128 → Fin 128 → EReal) (w : Fin 96 → Fin 9 → EReal) (i j : ℕ) (t : Fin 9) : EReal :=
  ∑ c : Fin 96, bordered (x c) (i + t.val / 3) (j + t.val % 3) * w c t

/-- One channel of the rectified convolution at one pixel. -/
def feature (x : Fin 96 → Fin 128 → Fin 128 → EReal) (w : Fin 96 → Fin 9 → EReal) (b : EReal) (i j : ℕ) : EReal :=
  max (∑ t : Fin 9, tap x w i j t + b) 0

/-- A 1×1 convolution's channel at one pixel, of the pixel's channels `h`. -/
def head (h v : Fin 96 → EReal) (b : EReal) : EReal := ∑ c : Fin 96, h c * v c + b

open Idealize.ShloMosaic Idealize.ShloMosaic.ValueIdx

variable (X : (⟨4, ![8, 96, 128, 128]⟩ : Shape).Idx → EReal) (W : (⟨4, ![96, 96, 3, 3]⟩ : Shape).Idx → EReal)
  (b : (⟨1, ![96]⟩ : Shape).Idx → EReal)

/-- The rectified convolution of image `n` of the batch `X` at row `i`, column `j`, channel `o`. -/
def pixel (n : Fin 8) (i j : ℕ) (o : Fin 96) : EReal :=
  feature (fun c y x => X (ix4 n c y x)) (fun c t => W (ix4 o c ⟨t.val / 3, by omega⟩ ⟨t.val % 3, by omega⟩)) (b (ix1 o)) i j

/-- The scores: the logistic of the nine-channel 1×1 convolution. -/
def scoresOf (Wc : (⟨4, ![9, 96, 1, 1]⟩ : Shape).Idx → EReal) (bc : (⟨1, ![9]⟩ : Shape).Idx → EReal) :
    (⟨4, ![8, 9, 128, 128]⟩ : Shape).Idx → EReal := fun y =>
  Ideal.logistic (head (pixel X W b (y 0) (y 2).val (y 3).val) (fun o => Wc (ix4 (y 1) o 0 0)) (bc (ix1 (y 1))))

/-- The regression: the thirty-six-channel 1×1 convolution. -/
def boxesOf (Wr : (⟨4, ![36, 96, 1, 1]⟩ : Shape).Idx → EReal) (br : (⟨1, ![36]⟩ : Shape).Idx → EReal) :
    (⟨4, ![8, 36, 128, 128]⟩ : Shape).Idx → EReal := fun y =>
  head (pixel X W b (y 0) (y 2).val (y 3).val) (fun o => Wr (ix4 (y 1) o 0 0)) (br (ix1 (y 1)))

/-- A sum over the 864 rows, tap by tap and channel by channel. -/
theorem sum_rows (f : Fin 864 → EReal) :
    ∑ k : Fin 864, f k = ∑ t : Fin 9, ∑ c : Fin 96, f ⟨t.val * 96 + c.val, by omega⟩ := by
  rw [← Fintype.sum_prod_type', ← (finProdFinEquiv (m := 9) (n := 96)).sum_comp]
  refine Finset.sum_congr rfl fun p _ => congrArg f (Fin.ext ?_)
  show p.2.val + 96 * p.1.val = p.1.val * 96 + p.2.val
  omega

end Cert.Rpn

end
-- ==== Proof.Ideal.Shifts.lean ====
/- The three columns-shifted copies of the image that one grid step builds, at an index: each is the zero-bordered image
   moved by one column, none, or back by one. -/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.KernelIdeal.Step

open Cert.KernelIdeal Cert.KernelIdeal.Gen Cert.Rpn
open Idealize.ShloMosaic Idealize.ShloMosaic.ValueIdx

/-- The block's image by channel, row and column. -/
def plane (x : Vec Ideal S1x96x128x128 .f32) (c : Fin 96) (i j : Fin 128) : EReal := x (ix4 0 c i j)

/-- The image flattened: channel `c` at position `128 i + j`. -/
theorem flat_apply (x : Vec Ideal S1x96x128x128 .f32) (c : Fin 96) (p : Fin 16384) :
    k0_pay6 x (ix2 c p) = plane x c ⟨p.val / 128, by omega⟩ ⟨p.val % 128, by omega⟩ := by
  unfold k0_pay6
  rw [shapeCast_apply _ _ (ix2 c p) (ix3 c ⟨p.val / 128, by omega⟩ ⟨p.val % 128, by omega⟩)
      (by rw [Shape.rowMajor_val_three, Shape.rowMajor_val_two]
          show (c.val * 128 + p.val / 128) * 128 + p.val % 128 = c.val * 16384 + p.val
          omega),
    truncf_apply,
    shapeCast_apply _ _ _ (ix4 0 c ⟨p.val / 128, by omega⟩ ⟨p.val % 128, by omega⟩)
      (by rw [Shape.rowMajor_val_four, Shape.rowMajor_val_three]
          show ((0 * 96 + c.val) * 128 + p.val / 128) * 128 + p.val % 128 = (c.val * 128 + p.val / 128) * 128 + p.val % 128
          omega)]
  rfl

/-- The low seven bits of the position are its column. -/
theorem column_word (c : Fin 96) (p : Fin 16384) (k : ℕ) (hk : k < 128) :
    cmpi .eq k0_pay5 (broadcast S96x16384 (BitVec.ofNat 32 k)) (ix2 c p) = if p.val % 128 = k then 1 else 0 := by
  have e : (k0_pay5 (ix2 c p)).toNat = p.val % 128 := by
    show (BitVec.ofNat 32 (0 * 16384 + p.val) &&& 127#32).toNat = _
    rw [BitVec.toNat_and, BitVec.toNat_ofNat]
    show (0 * 16384 + p.val) % 2 ^ 32 &&& 127 = _
    rw [show (127 : ℕ) = 2 ^ 7 - 1 from rfl, Nat.and_two_pow_sub_one_eq_mod]
    omega
  show BitVec.ofBool (k0_pay5 (ix2 c p) == BitVec.ofNat 32 k) = _
  by_cases h : p.val % 128 = k
  · rw [if_pos h, beq_iff_eq.mpr (BitVec.eq_of_toNat_eq (by rw [e, BitVec.toNat_ofNat, h]; omega))]; rfl
  · rw [if_neg h, beq_eq_false_iff_ne.mpr (fun h' => h (by rw [← e, h', BitVec.toNat_ofNat]; omega))]; rfl

/-- The stored zero is zero. -/
theorem zero_word : (Scalar.truncf (F := Ideal) .bf16 bitsLt_bf16_f32 (Scalar.ofBits .f32 0x00000000#32) : EReal) = 0 := by
  show Ideal.ofBits .f32 0x00000000#32 = 0
  simp [Ideal.ofBits, Ideal.ieee]

/-- The image one column to the right, zero in column 0. -/
theorem left_apply (x : Vec Ideal S1x96x128x128 .f32) (c : Fin 96) (p : Fin 16384) :
    k0_pay7 x (ix2 c p) = bordered (plane x c) (p.val / 128 + 1) (p.val % 128) := by
  unfold k0_pay7
  show Scalar.select (cmpi .eq k0_pay5 (broadcast S96x16384 (BitVec.ofNat 32 0)) (ix2 c p)) _ _ = _
  rw [column_word c p 0 (by omega)]
  by_cases h : p.val % 128 = 0
  · rw [if_pos h, bordered_outside _ (by omega)]
    exact zero_word
  · rw [if_neg h, bordered_inside _ (by omega) (by omega) (by omega) (by omega)]
    show concatenate S96x16384 1
      [⟨S96x1, extractStridedSlice S96x1 ![0, 16383] (k0_pay6 x) slices_S96x16384_o0_16383_S96x1⟩,
        ⟨S96x16383, extractStridedSlice S96x16383 ![0, 0] (k0_pay6 x) slices_S96x16384_o0_0_S96x16383⟩]
      concatenates_S96x1_S96x16383_S96x16384_d1 (ix2 c p) = _
    rw [concatenate_pair_apply_right (s₁ := S96x1) (s₂ := S96x16383) (1 : Fin S96x16384.rank) _ _ _ (ix2 c p) rfl rfl (ix2 c ⟨p.val - 1, by omega⟩ : S96x16383.Idx)
        (fun b hb => by match b with | 0 => rfl | 1 => exact absurd rfl hb)
        (by show p.val - 1 + 1 = p.val; omega),
      extractStridedSlice_apply _ _ _ _ (ix2 c ⟨p.val - 1, by omega⟩ : S96x16384.Idx)
        (fun a => by match a with
          | 0 => exact (Nat.zero_add _).symm
          | 1 => exact (Nat.zero_add _).symm),
      flat_apply]
    exact congrArg₂ (plane x c) (Fin.ext (by show (p.val - 1) / 128 = p.val / 128 + 1 - 1; omega))
      (Fin.ext (by show (p.val - 1) % 128 = p.val % 128 - 1; omega))

/-- The image where it is. -/
theorem centre_apply (x : Vec Ideal S1x96x128x128 .f32) (c : Fin 96) (p : Fin 16384) :
    k0_pay6 x (ix2 c p) = bordered (plane x c) (p.val / 128 + 1) (p.val % 128 + 1) := by
  rw [flat_apply, bordered_inside _ (by omega) (by omega) (by omega) (by omega)]
  rfl

/-- The image one column to the left, zero in the last column. -/
theorem right_apply (x : Vec Ideal S1x96x128x128 .f32) (c : Fin 96) (p : Fin 16384) :
    k0_pay8 x (ix2 c p) = bordered (plane x c) (p.val / 128 + 1) (p.val % 128 + 2) := by
  unfold k0_pay8
  show Scalar.select (cmpi .eq k0_pay5 (broadcast S96x16384 (BitVec.ofNat 32 127)) (ix2 c p)) _ _ = _
  rw [column_word c p 127 (by omega)]
  by_cases h : p.val % 128 = 127
  · rw [if_pos h, bordered_outside _ (by omega)]
    exact zero_word
  · rw [if_neg h, bordered_inside _ (by omega) (by omega) (by omega) (by omega)]
    show concatenate S96x16384 1
      [⟨S96x16383, extractStridedSlice S96x16383 ![0, 1] (k0_pay6 x) slices_S96x16384_o0_1_S96x16383⟩,
        ⟨S96x1, extractStridedSlice S96x1 ![0, 0] (k0_pay6 x) slices_S96x16384_o0_0_S96x1⟩]
      concatenates_S96x16383_S96x1_S96x16384_d1 (ix2 c p) = _
    rw [concatenate_pair_apply_left (s₁ := S96x16383) (s₂ := S96x1) (1 : Fin S96x16384.rank) _ _ _ (ix2 c p) rfl (ix2 c ⟨p.val, by omega⟩ : S96x16383.Idx)
        (fun b => by match b with | 0 => rfl | 1 => rfl),
      extractStridedSlice_apply _ _ _ _ (ix2 c ⟨p.val + 1, by omega⟩ : S96x16384.Idx)
        (fun a => by match a with
          | 0 => exact (Nat.zero_add _).symm
          | 1 => exact Nat.add_comm _ _),
      flat_apply]
    exact congrArg₂ (plane x c) (Fin.ext (by show (p.val + 1) / 128 = p.val / 128 + 1 - 1; omega))
      (Fin.ext (by show (p.val + 1) % 128 = p.val % 128 + 2 - 1; omega))

end Cert.KernelIdeal.Step

end
-- ==== Proof.Ideal.Scratch.lean ====
/- The scratch of one grid step after its fifteen stores, at an index: row `96 t + c` holds channel `c` of the
   zero-bordered image moved to tap `t` of the 3×3 window. -/
module

public import proofs.«01_k».proof.Proof.Ideal.Shifts
public import proofs.«01_k».proof.Proof.Ideal.Body
public import Idealize.ShloMosaic.Lib.Pipeline.ValueKit.Geometry

@[expose] public section

set_option maxRecDepth 16384

noncomputable section

namespace Cert.KernelIdeal.Step

open Cert.KernelIdeal Cert.KernelIdeal.Gen Cert.Rpn
open Idealize.ShloMosaic Idealize.ShloMosaic.ValueIdx

/-- Where every stored block agrees with `G` at the elements it is stored to, what the stores leave agrees with `G` at
    every element one of them wrote. -/
theorem canon_eq {s : Shape} {e : EltTy} (G : s.Idx → Elt Ideal e) (L : List (View.Piece (Elt Ideal) s e))
    (h : ∀ p ∈ L, ∀ i, p.2 i = G (p.1.emb i)) (y : s.Idx) (hy : ∃ p ∈ L, y ∈ p.1.set) : View.canon L y = G y := by
  induction L with
  | nil => obtain ⟨p, hp, -⟩ := hy; exact absurd hp List.not_mem_nil
  | cons q L ih =>
    by_cases hq : y ∈ q.1.set
    · obtain ⟨i, -, rfl⟩ := Finset.mem_map.mp (q.1.map_emb_univ ▸ hq)
      exact (View.canon_cons_emb q.1 q.2 L i).trans (h q List.mem_cons_self i)
    · rw [View.canon_cons_of_not_mem q L hq]
      refine ih (fun p hp => h p (List.mem_cons_of_mem _ hp)) ?_
      obtain ⟨p, hp, hyp⟩ := hy
      rcases List.mem_cons.mp hp with rfl | hp
      · exact absurd hyp hq
      · exact ⟨p, hp, hyp⟩

/-- Row `k`, position `p` of the scratch: the image's channel `k % 96` at position `p`, moved to tap `k / 96`. -/
def patch (x : Vec Ideal S1x96x128x128 .f32) (k p : ℕ) : EReal :=
  bordered (plane x ⟨k % 96, Nat.mod_lt _ (by norm_num)⟩) (p / 128 + k / 288) (p % 128 + k / 96 % 3)

/-- The scratch. -/
def patches (x : Vec Ideal S1x96x128x128 .f32) : S864x16384.Idx → EReal := fun y => patch x (y 0).val (y 1).val

/-- A columns-shifted copy `s` of the image holds tap column `d`. -/
def Holds (x : Vec Ideal S1x96x128x128 .f32) (s : FVec Ideal S96x16384 .bf16) (d : ℕ) : Prop :=
  ∀ (c : Fin 96) (p : Fin 16384), s (ix2 c p) = bordered (plane x c) (p.val / 128 + 1) (p.val % 128 + d)

variable {x : Vec Ideal S1x96x128x128 .f32} {s : FVec Ideal S96x16384 .bf16} {d r q : ℕ}

theorem bordered_congr {x : Vec Ideal S1x96x128x128 .f32} {c c' : Fin 96} {i i' j j' : ℕ} (hc : c = c') (hi : i = i') (hj : j = j') :
    bordered (plane x c) i j = bordered (plane x c') i' j' := by rw [hc, hi, hj]

/-- The zero row above the image. -/
theorem zero_above (w : FVec Ideal S96x128 .bf16) (hw : ∀ i, w i = (0 : EReal)) (hr : r = 96 * d) (hd : d < 3)
    (inb : ∀ a, (![r, 0] : Fin 2 → ℕ) a + S96x128.size a ≤ S864x16384.size a) (i : S96x128.Idx) :
    w i = patches x ((Rect.unit (s := S864x16384) ![r, 0] S96x128.size inb).emb i) := by
  obtain ⟨c, p, rfl⟩ : ∃ (c : Fin 96) (p : Fin 128), i = ix2 c p := ⟨i 0, i 1, eq_ix2 i⟩
  rw [hw]
  unfold patches patch
  rw [ValueKit.rect_emb_unit_val, ValueKit.rect_emb_unit_val]
  show 0 = bordered _ ((0 + p.val) / 128 + (r + c.val) / 288) _
  exact (bordered_outside _ (by omega)).symm

/-- The zero row below the image. -/
theorem zero_below (w : FVec Ideal S96x128 .bf16) (hw : ∀ i, w i = (0 : EReal)) (hr : r = 576 + 96 * d) (hd : d < 3)
    (inb : ∀ a, (![r, 16256] : Fin 2 → ℕ) a + S96x128.size a ≤ S864x16384.size a) (i : S96x128.Idx) :
    w i = patches x ((Rect.unit (s := S864x16384) ![r, 16256] S96x128.size inb).emb i) := by
  obtain ⟨c, p, rfl⟩ : ∃ (c : Fin 96) (p : Fin 128), i = ix2 c p := ⟨i 0, i 1, eq_ix2 i⟩
  rw [hw]
  unfold patches patch
  rw [ValueKit.rect_emb_unit_val, ValueKit.rect_emb_unit_val]
  show 0 = bordered _ ((16256 + p.val) / 128 + (r + c.val) / 288) _
  exact (bordered_outside _ (by omega)).symm

/-- The rows above each pixel: the image moved down by one row. -/
theorem rows_above (hs : Holds x s d) (w : FVec Ideal S96x16256 .bf16)
    (hw : ∀ (c : Fin 96) (p : Fin 16256), w (ix2 c p) = s (ix2 c ⟨p.val, by omega⟩)) (hr : r = 96 * d) (hd : d < 3)
    (inb : ∀ a, (![r, 128] : Fin 2 → ℕ) a + S96x16256.size a ≤ S864x16384.size a) (i : S96x16256.Idx) :
    w i = patches x ((Rect.unit (s := S864x16384) ![r, 128] S96x16256.size inb).emb i) := by
  obtain ⟨c, p, rfl⟩ : ∃ (c : Fin 96) (p : Fin 16256), i = ix2 c p := ⟨i 0, i 1, eq_ix2 i⟩
  rw [hw, hs]
  unfold patches patch
  rw [ValueKit.rect_emb_unit_val, ValueKit.rect_emb_unit_val]
  show bordered (plane x c) (p.val / 128 + 1) (p.val % 128 + d)
    = bordered (plane x ⟨(r + c.val) % 96, _⟩) ((128 + p.val) / 128 + (r + c.val) / 288) ((128 + p.val) % 128 + (r + c.val) / 96 % 3)
  exact bordered_congr (Fin.ext (by show c.val = (r + c.val) % 96; omega)) (by omega) (by omega)

/-- The rows of each pixel: the image where it is. -/
theorem rows_level (hs : Holds x s d) (w : FVec Ideal S96x16384 .bf16) (hw : ∀ i, w i = s i) (hr : r = 288 + 96 * d) (hd : d < 3)
    (inb : ∀ a, (![r, 0] : Fin 2 → ℕ) a + S96x16384.size a ≤ S864x16384.size a) (i : S96x16384.Idx) :
    w i = patches x ((Rect.unit (s := S864x16384) ![r, 0] S96x16384.size inb).emb i) := by
  obtain ⟨c, p, rfl⟩ : ∃ (c : Fin 96) (p : Fin 16384), i = ix2 c p := ⟨i 0, i 1, eq_ix2 i⟩
  rw [hw, hs]
  unfold patches patch
  rw [ValueKit.rect_emb_unit_val, ValueKit.rect_emb_unit_val]
  show bordered (plane x c) (p.val / 128 + 1) (p.val % 128 + d)
    = bordered (plane x ⟨(r + c.val) % 96, _⟩) ((0 + p.val) / 128 + (r + c.val) / 288) ((0 + p.val) % 128 + (r + c.val) / 96 % 3)
  exact bordered_congr (Fin.ext (by show c.val = (r + c.val) % 96; omega)) (by omega) (by omega)

/-- The rows below each pixel: the image moved up by one row. -/
theorem rows_below (hs : Holds x s d) (w : FVec Ideal S96x16256 .bf16)
    (hw : ∀ (c : Fin 96) (p : Fin 16256), w (ix2 c p) = s (ix2 c ⟨128 + p.val, by omega⟩)) (hr : r = 576 + 96 * d) (hd : d < 3)
    (inb : ∀ a, (![r, 0] : Fin 2 → ℕ) a + S96x16256.size a ≤ S864x16384.size a) (i : S96x16256.Idx) :
    w i = patches x ((Rect.unit (s := S864x16384) ![r, 0] S96x16256.size inb).emb i) := by
  obtain ⟨c, p, rfl⟩ : ∃ (c : Fin 96) (p : Fin 16256), i = ix2 c p := ⟨i 0, i 1, eq_ix2 i⟩
  rw [hw, hs]
  unfold patches patch
  rw [ValueKit.rect_emb_unit_val, ValueKit.rect_emb_unit_val]
  show bordered (plane x c) ((128 + p.val) / 128 + 1) ((128 + p.val) % 128 + d)
    = bordered (plane x ⟨(r + c.val) % 96, _⟩) ((0 + p.val) / 128 + (r + c.val) / 288) ((0 + p.val) % 128 + (r + c.val) / 96 % 3)
  exact bordered_congr (Fin.ext (by show c.val = (r + c.val) % 96; omega)) (by omega) (by omega)

/-- The stored zero block is zero. -/
theorem zero_block (i : S96x128.Idx) : k0_pay10 (F := Ideal) i = (0 : EReal) := by
  show Ideal.ofBits .bf16 0x0000#16 = 0
  simp [Ideal.ofBits, Ideal.ieee]

/-- The first rows of a copy, cut off its last image row. -/
theorem upper_apply (s : FVec Ideal S96x16384 .bf16) (c : Fin 96) (p : Fin 16256) :
    k0_pay17 s (ix2 c p) = s (ix2 c ⟨p.val, by omega⟩) := by
  unfold k0_pay17
  rw [shapeCast_apply _ _ (ix2 c p) (ix2 c p : S96x16256.Idx) rfl]
  exact extractStridedSlice_apply _ _ _ _ (ix2 c ⟨p.val, by omega⟩ : S96x16384.Idx)
    (fun a => by match a with
      | 0 => exact (Nat.zero_add _).symm
      | 1 => exact (Nat.zero_add _).symm)

/-- The last rows of a copy, cut off its first image row. -/
theorem lower_apply (s : FVec Ideal S96x16384 .bf16) (c : Fin 96) (p : Fin 16256) :
    k0_pay14 s (ix2 c p) = s (ix2 c ⟨128 + p.val, by omega⟩) := by
  unfold k0_pay14
  rw [shapeCast_apply _ _ (ix2 c p) (ix2 c p : S96x16256.Idx) rfl]
  exact extractStridedSlice_apply _ _ _ _ (ix2 c ⟨128 + p.val, by omega⟩ : S96x16384.Idx)
    (fun a => by match a with
      | 0 => exact (Nat.zero_add _).symm
      | 1 => rfl)

/-- A copy stored whole. -/
theorem whole_apply (s : FVec Ideal S96x16384 .bf16) (i : S96x16384.Idx) : k0_pay13 s i = s i := by
  unfold k0_pay13
  exact shapeCast_apply _ _ i i rfl

variable (c : Dev nD) (arg1 : Memref sig .tc .vmem S1x96x128x128 .f32) (h1 : arg1.IsWhole)
  (arg7 : Memref sig .tc .vmem S864x16384 .bf16)

/-- Loading the whole image buffer reads its contents. -/
theorem image_load (x : Vec Ideal S1x96x128x128 .f32) :
    View.readAt (Elt Ideal) arg1.view (Rect.unit (s := S1x96x128x128) ![0, 0, 0, 0] ![1, 96, 128, 128]
      inb_S1x96x128x128_S1x96x128x128_0_0_0_0).toLoadRect (h1.unread x) = x := by
  rw [View.readAt_eq_ld, h1.read_unread]
  exact View.ld_unit_lit _ _ (by decide)

theorem left_holds (x : Vec Ideal S1x96x128x128 .f32) : Holds x (k0_pay7 x) 0 := fun c p => left_apply x c p
theorem centre_holds (x : Vec Ideal S1x96x128x128 .f32) : Holds x (k0_pay6 x) 1 := fun c p => centre_apply x c p
theorem right_holds (x : Vec Ideal S1x96x128x128 .f32) : Holds x (k0_pay8 x) 2 := fun c p => right_apply x c p

/-- A block of a list that holds the element: the `n`-th, stored at row `r`, position `q`. -/
theorem hit {L : List (View.Piece (Elt Ideal) S864x16384 .bf16)} {y : S864x16384.Idx} (n : ℕ) {r q : ℕ} {size : Fin 2 → ℕ}
    {inb : ∀ a, (![r, q] : Fin 2 → ℕ) a + size a ≤ S864x16384.size a} {w : (Rect.unit (s := S864x16384) ![r, q] size inb).shape.Idx → EReal}
    (h : L[n]? = some ⟨Rect.unit (s := S864x16384) ![r, q] size inb, w⟩) (hk : r ≤ (y 0).val ∧ (y 0).val < r + size 0)
    (hp : q ≤ (y 1).val ∧ (y 1).val < q + size 1) : ∃ p ∈ L, y ∈ p.1.set :=
  ⟨_, List.mem_of_getElem? h, (Rect.mem_set_unit (inb := inb)).mpr fun a => by
    match a with
    | 0 => exact hk
    | 1 => exact hp⟩

/-- The fifteen stores cover the scratch. -/
theorem cover_scratch (x : Vec Ideal S1x96x128x128 .f32) (y : S864x16384.Idx) :
    ∃ p ∈ run.sl.HS_15 (F := Ideal) c arg1 h1 x, y ∈ p.1.set := by
  have h0 : (y 0).val < 864 := (y 0).isLt
  have h1 : (y 1).val < 16384 := (y 1).isLt
  have hr : ∀ m, m < 9 → (y 0).val / 96 = m → 96 * m ≤ (y 0).val ∧ (y 0).val < 96 * m + 96 := by omega
  obtain ⟨m, hm⟩ : ∃ m, (y 0).val / 96 = m := ⟨_, rfl⟩
  have band := hr m (by omega) hm
  have top : (y 1).val < 128 → 0 ≤ (y 1).val ∧ (y 1).val < 0 + 128 := by omega
  have below : ¬(y 1).val < 128 → 128 ≤ (y 1).val ∧ (y 1).val < 128 + 16256 := by omega
  have above : (y 1).val < 16256 → 0 ≤ (y 1).val ∧ (y 1).val < 0 + 16256 := by omega
  have last : ¬(y 1).val < 16256 → 16256 ≤ (y 1).val ∧ (y 1).val < 16256 + 128 := by omega
  have all : 0 ≤ (y 1).val ∧ (y 1).val < 0 + 16384 := by omega
  have hm9 : m < 9 := by omega
  clear hr hm
  match m, hm9 with
  | 0, _ => by_cases h : (y 1).val < 128; exacts [hit 14 rfl band (top h), hit 13 rfl band (below h)]
  | 1, _ => by_cases h : (y 1).val < 128; exacts [hit 9 rfl band (top h), hit 8 rfl band (below h)]
  | 2, _ => by_cases h : (y 1).val < 128; exacts [hit 4 rfl band (top h), hit 3 rfl band (below h)]
  | 3, _ => exact hit 12 rfl band all
  | 4, _ => exact hit 7 rfl band all
  | 5, _ => exact hit 2 rfl band all
  | 6, _ => by_cases h : (y 1).val < 16256; exacts [hit 11 rfl band (above h), hit 10 rfl band (last h)]
  | 7, _ => by_cases h : (y 1).val < 16256; exacts [hit 6 rfl band (above h), hit 5 rfl band (last h)]
  | 8, _ => by_cases h : (y 1).val < 16256; exacts [hit 1 rfl band (above h), hit 0 rfl band (last h)]

/-- A stored block agrees with the patches where it is stored. -/
def Agrees (x : Vec Ideal S1x96x128x128 .f32) (p : View.Piece (Elt Ideal) S864x16384 .bf16) : Prop :=
  ∀ i, p.2 i = patches x (p.1.emb i)

/-- The five blocks a shifted copy `s` is stored as agree with the patches. -/
theorem agrees_five (hs : Holds x s d) (hd : d < 3) {r0 r1 r2 : ℕ} (e0 : r0 = 96 * d) (e1 : r1 = 288 + 96 * d) (e2 : r2 = 576 + 96 * d)
    (ia ib ic id ie) :
    Agrees x ⟨Rect.unit (s := S864x16384) ![r2, 16256] S96x128.size ia, k0_pay10 (F := Ideal)⟩
    ∧ Agrees x ⟨Rect.unit (s := S864x16384) ![r2, 0] S96x16256.size ib, k0_pay14 s⟩
    ∧ Agrees x ⟨Rect.unit (s := S864x16384) ![r1, 0] S96x16384.size ic, k0_pay13 s⟩
    ∧ Agrees x ⟨Rect.unit (s := S864x16384) ![r0, 128] S96x16256.size id, k0_pay17 s⟩
    ∧ Agrees x ⟨Rect.unit (s := S864x16384) ![r0, 0] S96x128.size ie, k0_pay10 (F := Ideal)⟩ :=
  ⟨zero_below _ zero_block e2 hd ia, rows_below hs _ (lower_apply s) e2 hd ib, rows_level hs _ (whole_apply s) e1 hd ic,
    rows_above hs _ (upper_apply s) e0 hd id, zero_above _ zero_block e0 hd ie⟩

/-- Every stored block agrees with the patches where it is stored. -/
theorem stores_agree (x : Vec Ideal S1x96x128x128 .f32) :
    ∀ p ∈ run.sl.HS_15 (F := Ideal) c arg1 h1 x, Agrees x p := by
  sl_unfold_words
  simp only [image_load, List.forall_mem_cons, List.not_mem_nil, false_implies, implies_true, and_true]
  obtain ⟨a0, a1, a2, a3, a4⟩ := agrees_five (left_holds x) (by omega) rfl rfl rfl (by decide) (by decide) (by decide) (by decide) (by decide)
  obtain ⟨b0, b1, b2, b3, b4⟩ := agrees_five (centre_holds x) (by omega) rfl rfl rfl (by decide) (by decide) (by decide) (by decide) (by decide)
  obtain ⟨c0, c1, c2, c3, c4⟩ := agrees_five (right_holds x) (by omega) rfl rfl rfl (by decide) (by decide) (by decide) (by decide) (by decide)
  exact ⟨c0, c1, c2, c3, c4, b0, b1, b2, b3, b4, a0, a1, a2, a3, a4⟩

/-- What the step reads back from the scratch. -/
theorem scratch_eq (x : Vec Ideal S1x96x128x128 .f32) : run.sl.v83 c arg1 h1 arg7 x = patches x := by
  unfold run.sl.v83
  rw [View.readCov_eq_canon_ld _ _ _ (cover_scratch c arg1 h1 x), View.ld_unit_lit _ _ (by decide)]
  funext y
  exact canon_eq (patches x) _ (stores_agree c arg1 h1 x) y (cover_scratch c arg1 h1 x y)

end Cert.KernelIdeal.Step

end
-- ==== Proof.Ideal.Block.lean ====
/- What one grid step stores in its two output blocks, at an index, from its image block and the packed weights and
   biases. -/
module

public import proofs.«01_k».proof.Proof.Ideal.Scratch
public import Idealize.ShloMosaic.Lib.MatmulPlain

@[expose] public section

set_option maxRecDepth 16384

noncomputable section

namespace Cert.KernelIdeal.Step

open Cert.KernelIdeal Cert.KernelIdeal.Gen Cert.Rpn
open Idealize.ShloMosaic Idealize.ShloMosaic.ValueIdx

variable (x0 : Vec Ideal S1x96x128x128 .f32) (x1 : Vec Ideal S96x864 .bf16) (x2 : Vec Ideal S56x96 .bf16) (x3 : Vec Ideal S152x128 .f32)

/-- The rectified convolution of the block's image at one pixel, channel `o`: row `96 t + c` of the packed weights is tap
    `t` of input channel `c`. -/
def channel (i j : ℕ) (o : Fin 96) : EReal :=
  feature (plane x0) (fun c t => x1 (ix2 o ⟨t.val * 96 + c.val, by omega⟩)) (x3 (ix2 ⟨o.val, by omega⟩ 0)) i j

/-- Row `n` of the second product: the pixel's channels against row `n` of the packed 1×1 weights. -/
def output (n : Fin 56) (i j : ℕ) : EReal :=
  head (channel x0 x1 x3 i j) (fun o => x2 (ix2 n o)) (x3 (ix2 ⟨96 + n.val, by omega⟩ 0))

/-- The zero word is zero. -/
theorem zero_f32 : Ideal.ofBits .f32 0x00000000#32 = 0 := by simp [Ideal.ofBits, Ideal.ieee]

/-- One row of the first product: the taps of the convolution. -/
theorem patches_sum (o : Fin 96) (p : Fin 16384) :
    ∑ k : Fin 864, x1 (ix2 o k) * patches x0 (ix2 k p)
      = ∑ t : Fin 9, tap (plane x0) (fun c t => x1 (ix2 o ⟨t.val * 96 + c.val, by omega⟩)) (p.val / 128) (p.val % 128) t := by
  refine (sum_rows (fun k => x1 (ix2 o k) * patches x0 (ix2 k p))).trans ?_
  refine Finset.sum_congr rfl fun t _ => ?_
  unfold tap
  refine Finset.sum_congr rfl fun c _ => ?_
  show _ * bordered (plane x0 ⟨(t.val * 96 + c.val) % 96, _⟩) (p.val / 128 + (t.val * 96 + c.val) / 288)
    (p.val % 128 + (t.val * 96 + c.val) / 96 % 3) = _
  rw [mul_comm]
  exact congrArg (· * _) (bordered_congr (Fin.ext (by show (t.val * 96 + c.val) % 96 = c.val; omega)) (by omega) (by omega))

/-- The second product's rows from what the step loads. -/
theorem rows_apply (v5 : FVec Ideal S96x1 .f32) (v7 : FVec Ideal S56x1 .f32)
    (h5 : ∀ o : Fin 96, v5 (ix2 o 0) = x3 (ix2 ⟨o.val, by omega⟩ 0)) (h7 : ∀ n : Fin 56, v7 (ix2 n 0) = x3 (ix2 ⟨96 + n.val, by omega⟩ 0))
    (n : Fin 56) (p : Fin 16384) :
    k0_pay26 x1 x2 v5 v7 (patches x0) (ix2 n p) = output x0 x1 x2 x3 n (p.val / 128) (p.val % 128) := by
  unfold k0_pay26 output head
  rw [addf_apply, broadcastTo_apply _ _ _ (ix2 n 0 : S56x1.Idx) (fun a => by match a with | 0 => rfl | 1 => rfl), h7]
  refine congrArg (· + _) ?_
  refine (Ideal.matmul_plain_apply (M := 56) (K := 96) (N := 16384) none _ _ _ n p).trans ?_
  rw [constant_apply]
  refine (congrArg (· + _) zero_f32).trans ((zero_add _).trans (Finset.sum_congr rfl fun o _ => ?_))
  rw [mul_comm, truncf_apply, maximumf_apply, addf_apply,
    broadcastTo_apply _ _ _ (ix2 o 0 : S96x1.Idx) (fun a => by match a with | 0 => rfl | 1 => rfl), h5]
  refine congrArg (· * _) ?_
  unfold channel feature
  refine congrArg₂ max (congrArg (· + _) ?_) zero_f32
  refine (Ideal.matmul_plain_apply (M := 96) (K := 864) (N := 16384) none _ _ _ o p).trans ?_
  rw [constant_apply]
  exact (congrArg (· + _) zero_f32).trans ((zero_add _).trans (patches_sum x0 x1 o p))

/-- A row of the products as an image. -/
theorem image_row {n : ℕ} (i j : Fin 128) (k : Fin n) :
    ((⟨2, ![n, 16384]⟩ : Shape).rowMajor (ix2 k ⟨i.val * 128 + j.val, by omega⟩)).val
      = ((⟨4, ![1, n, 128, 128]⟩ : Shape).rowMajor (ix4 0 k i j)).val := by
  rw [Shape.rowMajor_val_two, Shape.rowMajor_val_four]
  show k.val * 16384 + (i.val * 128 + j.val) = ((0 * n + k.val) * 128 + i.val) * 128 + j.val
  omega

variable (c : Dev nD) (i : grid0.Coords)
  (arg1 : Memref sig .tc .vmem S1x96x128x128 .f32) (h1 : arg1.IsWhole)
  (arg2 : Memref sig .tc .vmem S96x864 .bf16) (h2 : arg2.IsWhole)
  (arg3 : Memref sig .tc .vmem S56x96 .bf16) (h3 : arg3.IsWhole)
  (arg4 : Memref sig .tc .vmem S152x128 .f32) (h4 : arg4.IsWhole)
  (arg5 : Memref sig .tc .vmem S1x9x128x128 .f32) (h5 : arg5.IsWhole)
  (arg6 : Memref sig .tc .vmem S1x36x128x128 .f32) (h6 : arg6.IsWhole)
  (arg7 : Memref sig .tc .vmem S864x16384 .bf16) (h7 : arg7.IsWhole)

/-- The packed 3×3 weights as loaded. -/
theorem load_wide : run.sl.r c arg2 h2 x1 = x1 := by
  unfold run.sl.r k0_pay1
  rw [View.readAt_eq_ld, h2.read_unread, View.ld_unit_lit _ _ (by decide)]
  exact funext fun k => shapeCast_apply _ _ k k rfl

/-- The packed 1×1 weights as loaded. -/
theorem load_small : run.sl.r_1 c arg3 h3 x2 = x2 := by
  unfold run.sl.r_1 k0_pay2
  rw [View.readAt_eq_ld, h3.read_unread, View.ld_unit_lit _ _ (by decide)]
  exact funext fun k => shapeCast_apply _ _ k k rfl

/-- The convolution's bias column as loaded. -/
theorem load_bias (o : Fin 96) : run.sl.r_2 c arg4 h4 x3 (ix2 o 0) = x3 (ix2 ⟨o.val, by omega⟩ 0) := by
  unfold run.sl.r_2 k0_pay3
  rw [View.readAt_eq_ld, h4.read_unread, shapeCast_apply _ _ (ix2 o 0) (ix2 o 0 : S96x1.Idx) rfl]
  refine congrArg x3 (funext fun a => Fin.ext ?_)
  match a with
  | 0 => show 0 + 1 * o.val = o.val; omega
  | 1 => rfl

/-- The 1×1 biases' column as loaded. -/
theorem load_bias_small (n : Fin 56) : run.sl.r_3 c arg4 h4 x3 (ix2 n 0) = x3 (ix2 ⟨96 + n.val, by omega⟩ 0) := by
  unfold run.sl.r_3 k0_pay4
  rw [View.readAt_eq_ld, h4.read_unread, shapeCast_apply _ _ (ix2 n 0) (ix2 n 0 : S56x1.Idx) rfl]
  refine congrArg x3 (funext fun a => Fin.ext ?_)
  match a with
  | 0 => show 96 + 1 * n.val = 96 + n.val; omega
  | 1 => rfl

/-- The score block the step stores: the logistic of the first nine rows. -/
theorem stored_scores (n : Fin 9) (y x : Fin 128) :
    View.canon (run (F := Ideal) c i arg1 h1 arg2 h2 arg3 h3 arg4 h4 arg5 h5 arg6 h6 arg7 h7 x0 x1 x2 x3).1 (ix4 0 n y x)
      = Ideal.logistic (output x0 x1 x2 x3 ⟨n.val, by omega⟩ y.val x.val) := by
  unfold run
  dsimp only
  refine (congrFun (View.canon_cons_unit_lit (S := S1x9x128x128) _ _ [] (by decide)) _).trans ?_
  rw [load_wide, load_small, scratch_eq]
  unfold k0_pay27
  rw [shapeCast_apply _ _ (ix4 0 n y x) (ix2 n ⟨y.val * 128 + x.val, by omega⟩ : S9x16384.Idx) (image_row y x n)]
  refine congrArg Ideal.logistic ?_
  rw [extractStridedSlice_apply _ _ _ _ (ix2 ⟨n.val, by omega⟩ ⟨y.val * 128 + x.val, by omega⟩ : S56x16384.Idx)
      (fun a => by match a with
        | 0 => exact (Nat.zero_add _).symm
        | 1 => exact (Nat.zero_add _).symm),
    rows_apply x0 x1 x2 x3 _ _ (load_bias x3 c arg4 h4) (load_bias_small x3 c arg4 h4)]
  exact congrArg₂ (output x0 x1 x2 x3 _) (by show (y.val * 128 + x.val) / 128 = _; omega) (by show (y.val * 128 + x.val) % 128 = _; omega)

/-- The regression block the step stores: rows 16 to 51. -/
theorem stored_boxes (n : Fin 36) (y x : Fin 128) :
    View.canon (run (F := Ideal) c i arg1 h1 arg2 h2 arg3 h3 arg4 h4 arg5 h5 arg6 h6 arg7 h7 x0 x1 x2 x3).2.1 (ix4 0 n y x)
      = output x0 x1 x2 x3 ⟨16 + n.val, by omega⟩ y.val x.val := by
  unfold run
  dsimp only
  refine (congrFun (View.canon_cons_unit_lit (S := S1x36x128x128) _ _ [] (by decide)) _).trans ?_
  unfold run.sl.r_8
  rw [load_wide, load_small, scratch_eq]
  unfold k0_pay28
  rw [shapeCast_apply _ _ (ix4 0 n y x) (ix2 n ⟨y.val * 128 + x.val, by omega⟩ : S36x16384.Idx) (image_row y x n),
    extractStridedSlice_apply _ _ _ _ (ix2 ⟨16 + n.val, by omega⟩ ⟨y.val * 128 + x.val, by omega⟩ : S56x16384.Idx)
      (fun a => by match a with
        | 0 => rfl
        | 1 => exact (Nat.zero_add _).symm),
    rows_apply x0 x1 x2 x3 _ _ (load_bias x3 c arg4 h4) (load_bias_small x3 c arg4 h4)]
  exact congrArg₂ (output x0 x1 x2 x3 _) (by show (y.val * 128 + x.val) / 128 = _; omega) (by show (y.val * 128 + x.val) % 128 = _; omega)

end Cert.KernelIdeal.Step

end
-- ==== Proof.Ideal.Packed.lean ====
/- The packed weights and biases the host hands the grid, at an index, from the program's arguments. -/
module

public import proofs.«01_k».proof.Proof.Ideal.Launch
public import Idealize.ShloMosaic.Lib.StableHlo.RunRead
public import Idealize.ShloMosaic.Lib.Pipeline.Value
public import Idealize.ShloMosaic.Lib.ValueIdx

@[expose] public section

set_option maxRecDepth 16384

noncomputable section

namespace Cert.KernelIdeal.Step

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- An argument as launched. -/
abbrev arg (b : Ref sig .tc) : Buf (Elt Ideal) ((c : Thread nD τ).loc b) := m ((c : Thread nD τ).loc b)

/-- The zero rows of the packed 1×1 weights. -/
def zeros (s : Shape) (h : S_.BroadcastsInDim s ![]) : FVec Ideal s .f32 := broadcastInDim s ![] h (constant S_ .f32 0x00000000#32)

/-- The packed 3×3 weights. -/
theorem wide_eq : (V m c main_call0_v2 : S96x864.Idx → EReal)
    = truncf (F := Ideal) (φ := .f32) .bf16 (shapeCast S96x864 (transpose S96x3x3x96 [0, 2, 3, 1] (arg m c main_arg1)
        transposes_S96x96x3x3_S96x3x3x96_0_2_3_1) shapeCasts_S96x3x3x96_S96x864) bitsLt_bf16_f32 := by
  unfold V
  after_reads_simp
  rfl

/-- The packed 1×1 weights: the scores' nine rows, seven of zeros, the regression's thirty-six, four of zeros. -/
theorem small_eq : (V m c main_call0_v8 : S56x96.Idx → EReal)
    = truncf (F := Ideal) (φ := .f32) .bf16 (concatenate S56x96 0
        [⟨S9x96, shapeCast S9x96 (arg m c main_arg3) shapeCasts_S9x96x1x1_S9x96⟩, ⟨S7x96, zeros S7x96 bcast_S_S7x96⟩,
          ⟨S36x96, shapeCast S36x96 (arg m c main_arg5) shapeCasts_S36x96x1x1_S36x96⟩, ⟨S4x96, zeros S4x96 bcast_S_S4x96⟩]
        concatenates_S9x96_S7x96_S36x96_S4x96_S56x96_d0) bitsLt_bf16_f32 := by
  have e3 : StableHlo.upto hostOps0 (fun b => m (c, b)) 9 (Proc.devRef .tc main_call0_v3)
      = shapeCast S9x96 (arg m c main_arg3) shapeCasts_S9x96x1x1_S9x96 := by after_reads_simp; rfl
  have e4 : StableHlo.upto hostOps0 (fun b => m (c, b)) 9 (Proc.devRef .tc main_call0_v4) = zeros S7x96 bcast_S_S7x96 := by
    after_reads_simp; rfl
  have e5 : StableHlo.upto hostOps0 (fun b => m (c, b)) 9 (Proc.devRef .tc main_call0_v5)
      = shapeCast S36x96 (arg m c main_arg5) shapeCasts_S36x96x1x1_S36x96 := by after_reads_simp; rfl
  have e6 : StableHlo.upto hostOps0 (fun b => m (c, b)) 9 (Proc.devRef .tc main_call0_v6) = zeros S4x96 bcast_S_S4x96 := by
    after_reads_simp; rfl
  rw [← e3, ← e4, ← e5, ← e6]
  unfold V
  after_reads_simp
  rfl

/-- The packed biases, one column repeated: the convolution's, the scores', seven zeros, the regression's, four zeros. -/
theorem biases_eq : (V m c main_call0_v13 : S152x128.Idx → EReal)
    = broadcastInDim S152x128 ![0, 1] bcast_S152x1_S152x128_0_1 (broadcastInDim S152x1 ![0] bcast_S152_S152x1_0 (concatenate S152 0
        [⟨S96, arg m c main_arg2⟩, ⟨S9, arg m c main_arg4⟩, ⟨S7, zeros S7 bcast_S_S7⟩, ⟨S36, arg m c main_arg6⟩, ⟨S4, zeros S4 bcast_S_S4⟩]
        concatenates_S96_S9_S7_S36_S4_S152_d0)) := by
  have e2 : StableHlo.upto hostOps0 (fun b => m (c, b)) 15 (Proc.devRef .tc main_arg2) = arg m c main_arg2 := by after_reads_simp
  have e4 : StableHlo.upto hostOps0 (fun b => m (c, b)) 15 (Proc.devRef .tc main_arg4) = arg m c main_arg4 := by after_reads_simp
  have e6 : StableHlo.upto hostOps0 (fun b => m (c, b)) 15 (Proc.devRef .tc main_arg6) = arg m c main_arg6 := by after_reads_simp
  have e9 : StableHlo.upto hostOps0 (fun b => m (c, b)) 15 (Proc.devRef .tc main_call0_v9) = zeros S7 bcast_S_S7 := by
    after_reads_simp; rfl
  have e10 : StableHlo.upto hostOps0 (fun b => m (c, b)) 15 (Proc.devRef .tc main_call0_v10) = zeros S4 bcast_S_S4 := by
    after_reads_simp; rfl
  rw [← e2, ← e4, ← e6, ← e9, ← e10]
  unfold V
  after_reads_simp
  rfl

/-- Row `o` of the packed 3×3 weights at tap `t`, channel `k`. -/
theorem wide_apply (o k : Fin 96) (t : Fin 9) :
    (V m c main_call0_v2 : S96x864.Idx → EReal) (ix2 o ⟨t.val * 96 + k.val, by omega⟩)
      = (arg m c main_arg1 : S96x96x3x3.Idx → EReal) (ix4 o k ⟨t.val / 3, by omega⟩ ⟨t.val % 3, by omega⟩) := by
  rw [wide_eq, truncf_apply,
    shapeCast_apply _ _ _ (ix4 o ⟨t.val / 3, by omega⟩ ⟨t.val % 3, by omega⟩ k : S96x3x3x96.Idx)
      (by rw [Shape.rowMajor_val_four, Shape.rowMajor_val_two]
          show ((o.val * 3 + t.val / 3) * 3 + t.val % 3) * 96 + k.val = o.val * 864 + (t.val * 96 + k.val)
          omega)]
  exact transpose_apply _ _ _ _ _ (fun b => by match b with | 0 => rfl | 1 => rfl | 2 => rfl | 3 => rfl)

/-- The scores' rows of the packed 1×1 weights. -/
theorem small_scores (n : Fin 9) (o : Fin 96) :
    (V m c main_call0_v8 : S56x96.Idx → EReal) (ix2 ⟨n.val, by omega⟩ o) = (arg m c main_arg3 : S9x96x1x1.Idx → EReal) (ix4 n o 0 0) := by
  rw [small_eq, truncf_apply,
    concatenate_apply_piece (0 : Fin S56x96.rank) _ _ _ 0 (by simp) S9x96 _ rfl rfl 0 rfl (ix2 n o)
      (fun b hb => by match b with | 0 => exact absurd rfl hb | 1 => rfl) (Nat.zero_add _)]
  exact shapeCast_apply (s := S9x96x1x1) _ _ _ _ (by
    rw [Shape.rowMajor_val_four, Shape.rowMajor_val_two]
    show ((n.val * 96 + o.val) * 1 + 0) * 1 + 0 = n.val * 96 + o.val
    omega)

/-- The regression's rows of the packed 1×1 weights. -/
theorem small_boxes (n : Fin 36) (o : Fin 96) :
    (V m c main_call0_v8 : S56x96.Idx → EReal) (ix2 ⟨16 + n.val, by omega⟩ o)
      = (arg m c main_arg5 : S36x96x1x1.Idx → EReal) (ix4 n o 0 0) := by
  rw [small_eq, truncf_apply,
    concatenate_apply_piece (0 : Fin S56x96.rank) _ _ _ 2 (by simp) S36x96 _ rfl rfl 16 rfl (ix2 n o)
      (fun b hb => by match b with | 0 => exact absurd rfl hb | 1 => rfl) rfl]
  exact shapeCast_apply (s := S36x96x1x1) _ _ _ _ (by
    rw [Shape.rowMajor_val_four, Shape.rowMajor_val_two]
    show ((n.val * 96 + o.val) * 1 + 0) * 1 + 0 = n.val * 96 + o.val
    omega)

/-- A packed bias, whatever the column. -/
theorem biases_apply (r : Fin 152) :
    (V m c main_call0_v13 : S152x128.Idx → EReal) (ix2 r 0) = concatenate S152 0
      [⟨S96, arg m c main_arg2⟩, ⟨S9, arg m c main_arg4⟩, ⟨S7, zeros S7 bcast_S_S7⟩, ⟨S36, arg m c main_arg6⟩, ⟨S4, zeros S4 bcast_S_S4⟩]
      concatenates_S96_S9_S7_S36_S4_S152_d0 (ix1 r) := by
  rw [biases_eq, broadcastInDim_apply _ _ _ _ (ix2 r 0 : S152x1.Idx) (fun a => by match a with | 0 => rfl | 1 => rfl)]
  exact broadcastInDim_apply _ _ _ _ (ix1 r) (fun a => by match a with | 0 => rfl)

/-- The convolution's biases. -/
theorem bias_wide (o : Fin 96) :
    (V m c main_call0_v13 : S152x128.Idx → EReal) (ix2 ⟨o.val, by omega⟩ 0) = (arg m c main_arg2 : S96.Idx → EReal) (ix1 o) := by
  rw [biases_apply]
  exact concatenate_apply_piece (0 : Fin S152.rank) _ _ _ 0 (by simp) S96 _ rfl rfl 0 rfl (ix1 o)
    (fun b hb => by match b with | 0 => exact absurd rfl hb) (Nat.zero_add _)

/-- The scores' biases. -/
theorem bias_scores (n : Fin 9) :
    (V m c main_call0_v13 : S152x128.Idx → EReal) (ix2 ⟨96 + n.val, by omega⟩ 0) = (arg m c main_arg4 : S9.Idx → EReal) (ix1 n) := by
  rw [biases_apply]
  exact concatenate_apply_piece (0 : Fin S152.rank) _ _ _ 1 (by simp) S9 _ rfl rfl 96 rfl (ix1 n)
    (fun b hb => by match b with | 0 => exact absurd rfl hb) rfl

/-- The regression's biases. -/
theorem bias_boxes (n : Fin 36) :
    (V m c main_call0_v13 : S152x128.Idx → EReal) (ix2 ⟨96 + (16 + n.val), by omega⟩ 0)
      = (arg m c main_arg6 : S36.Idx → EReal) (ix1 n) := by
  rw [biases_apply]
  exact concatenate_apply_piece (0 : Fin S152.rank) _ _ _ 3 (by simp) S36 _ rfl rfl 112 rfl (ix1 n)
    (fun b hb => by match b with | 0 => exact absurd rfl hb) (by show 112 + n.val = 96 + (16 + n.val); omega)

end Cert.KernelIdeal.Step

end
-- ==== Proof.Ideal.Final.lean ====
/- The two result arrays after the grid, as the mathematics over the program's arguments. -/
module

public import proofs.«01_k».proof.Proof.Ideal.Block
public import proofs.«01_k».proof.Proof.Ideal.Packed
public import Idealize.ShloMosaic.Lib.Pipeline.ValueKit.Geometry

@[expose] public section

set_option maxRecDepth 16384

noncomputable section

namespace Cert.KernelIdeal.Step

open Cert.KernelIdeal Cert.KernelIdeal.Gen Cert.Rpn
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg) (c : Dev nD)

/-- The grid step's batch element. -/
abbrev batch (t : Fin cfg0.N) : Fin 8 := t.cast N_0

/-- Where each window's block lies: the image's and the results' at their batch element, the packed arrays' at the start. -/
theorem index_image : ∀ t : Fin cfg0.N, win0_0.index t 0 = t.val ∧ win0_0.index t 1 = 0 ∧ win0_0.index t 2 = 0 ∧ win0_0.index t 3 = 0 := by
  decide +kernel
theorem index_wide : ∀ t : Fin cfg0.N, win0_1.index t 0 = 0 ∧ win0_1.index t 1 = 0 := by decide +kernel
theorem index_small : ∀ t : Fin cfg0.N, win0_2.index t 0 = 0 ∧ win0_2.index t 1 = 0 := by decide +kernel
theorem index_biases : ∀ t : Fin cfg0.N, win0_3.index t 0 = 0 ∧ win0_3.index t 1 = 0 := by decide +kernel
theorem index_scores : ∀ t : Fin cfg0.N, win0_4.index t 0 = t.val ∧ win0_4.index t 1 = 0 ∧ win0_4.index t 2 = 0 ∧ win0_4.index t 3 = 0 := by
  decide +kernel
theorem index_boxes : ∀ t : Fin cfg0.N, win0_5.index t 0 = t.val ∧ win0_5.index t 1 = 0 ∧ win0_5.index t 2 = 0 ∧ win0_5.index t 3 = 0 := by
  decide +kernel

/-- The image block of step `t`. -/
theorem block_image (t : Fin cfg0.N) (k : Fin 96) (i j : Fin 128) :
    plane (block m c 0 t) k i j = (arg m c main_arg0 : S8x96x128x128.Idx → EReal) (ix4 (batch t) k i j) := by
  obtain ⟨e0, e1, e2, e3⟩ := index_image t
  show V m c main_arg0 (((cfg0.win 0).blk t).view.emb (ix4 0 k i j)) = _
  rw [V_param m c (by decide)]
  refine congrArg (arg m c main_arg0) (funext fun a => Fin.ext ?_)
  match a with
  | 0 => show win0_0.index t 0 * 1 + 1 * 0 = t.val; omega
  | 1 => show win0_0.index t 1 * 96 + 1 * k.val = k.val; omega
  | 2 => show win0_0.index t 2 * 128 + 1 * i.val = i.val; omega
  | 3 => show win0_0.index t 3 * 128 + 1 * j.val = j.val; omega

/-- The packed weights and biases reach every step whole. -/
theorem block_wide (t : Fin cfg0.N) : block m c 1 t = V m c main_call0_v2 := by
  obtain ⟨e0, e1⟩ := index_wide t
  funext y
  refine congrArg (V m c main_call0_v2) (funext fun a => Fin.ext ?_)
  match a with
  | 0 => show win0_1.index t 0 * 96 + 1 * (y 0).val = (y 0).val; omega
  | 1 => show win0_1.index t 1 * 864 + 1 * (y 1).val = (y 1).val; omega
theorem block_small (t : Fin cfg0.N) : block m c 2 t = V m c main_call0_v8 := by
  obtain ⟨e0, e1⟩ := index_small t
  funext y
  refine congrArg (V m c main_call0_v8) (funext fun a => Fin.ext ?_)
  match a with
  | 0 => show win0_2.index t 0 * 56 + 1 * (y 0).val = (y 0).val; omega
  | 1 => show win0_2.index t 1 * 96 + 1 * (y 1).val = (y 1).val; omega
theorem block_biases (t : Fin cfg0.N) : block m c 3 t = V m c main_call0_v13 := by
  obtain ⟨e0, e1⟩ := index_biases t
  funext y
  refine congrArg (V m c main_call0_v13) (funext fun a => Fin.ext ?_)
  match a with
  | 0 => show win0_3.index t 0 * 152 + 1 * (y 0).val = (y 0).val; omega
  | 1 => show win0_3.index t 1 * 128 + 1 * (y 1).val = (y 1).val; omega

/-- The step's channels are the batch element's. -/
theorem channel_eq (t : Fin cfg0.N) (i j : ℕ) :
    channel (block m c 0 t) (block m c 1 t) (block m c 3 t) i j
      = pixel (arg m c main_arg0) (arg m c main_arg1) (arg m c main_arg2) (batch t) i j := by
  funext o
  unfold channel pixel
  rw [block_wide, block_biases, bias_wide,
    show plane (block m c 0 t) = _ from funext fun k => funext fun y => funext fun x => block_image m c t k y x]
  exact congrArg (fun w => feature _ w _ i j) (funext fun k => funext fun s => wide_apply m c o k s)

/-- The score block of step `t`. -/
theorem scores_apply (t : Fin cfg0.N) (n : Fin 9) (i j : Fin 128) : scores m c t (ix4 0 n i j)
    = Ideal.logistic (output (block m c 0 t) (block m c 1 t) (block m c 2 t) (block m c 3 t) ⟨n.val, by omega⟩ i.val j.val) :=
  stored_scores (block m c 0 t) (block m c 1 t) (block m c 2 t) (block m c 3 t) c (grid0.coords t) (b0 t) (w0 t) (b1 t) (w1 t) (b2 t) (w2 t) (b3 t) (w3 t) (b4 t) (w4 t) (b5 t)
    (w5 t) bs (Memref.isWhole_whole _) n i j

/-- The regression block of step `t`. -/
theorem boxes_apply (t : Fin cfg0.N) (n : Fin 36) (i j : Fin 128) : boxes m c t (ix4 0 n i j)
    = output (block m c 0 t) (block m c 1 t) (block m c 2 t) (block m c 3 t) ⟨16 + n.val, by omega⟩ i.val j.val :=
  stored_boxes (block m c 0 t) (block m c 1 t) (block m c 2 t) (block m c 3 t) c (grid0.coords t) (b0 t) (w0 t) (b1 t) (w1 t) (b2 t) (w2 t) (b3 t) (w3 t) (b4 t) (w4 t) (b5 t)
    (w5 t) bs (Memref.isWhole_whole _) n i j

/-- The scores block of step `t` is the batch element's part of the mathematics. -/
theorem scores_block (t : Fin cfg0.N) (y : S1x9x128x128.Idx) : scores m c t y
    = scoresOf (arg m c main_arg0) (arg m c main_arg1) (arg m c main_arg2) (arg m c main_arg3) (arg m c main_arg4)
      (ix4 (batch t) (y 1) (y 2) (y 3)) := by
  have y0 : y 0 = (0 : Fin 1) := Fin.ext (by have : (y 0).val < 1 := (y 0).isLt; show (y 0).val = 0; omega)
  refine (congrArg (scores m c t) ((eq_ix4 y).trans (congrArg (fun z => ix4 z _ _ _) y0))).trans
    ((scores_apply m c t (y 1) (y 2) (y 3)).trans ?_)
  unfold output scoresOf
  rw [channel_eq, block_small, block_biases]
  exact congrArg Ideal.logistic (congrArg₂ (head _) (funext fun o => small_scores m c (y 1) o) (bias_scores m c (y 1)))

/-- Where window 4's block lies in the scores array. -/
theorem scores_place (t : Fin cfg0.N) (y : S1x9x128x128.Idx) :
    ((cfg0.win 4).blk t).view.emb y = (ix4 (batch t) (y 1) (y 2) (y 3) : S8x9x128x128.Idx) := by
  obtain ⟨e0, e1, e2, e3⟩ := index_scores t
  have y0 : (y 0).val < 1 := (y 0).isLt
  refine funext fun a => Fin.ext ?_
  match a with
  | 0 => show win0_4.index t 0 * 1 + 1 * (y 0).val = t.val; omega
  | 1 => show win0_4.index t 1 * 9 + 1 * (y 1).val = (y 1).val; omega
  | 2 => show win0_4.index t 2 * 128 + 1 * (y 2).val = (y 2).val; omega
  | 3 => show win0_4.index t 3 * 128 + 1 * (y 3).val = (y 3).val; omega

/-- The kernel's scores. -/
theorem final_scores : (dats m 0 c).arrAt 4 cfg0.N
    = scoresOf (arg m c main_arg0) (arg m c main_arg1) (arg m c main_arg2) (arg m c main_arg3) (arg m c main_arg4) := by
  refine (dats m 0 c).arrAt_eq_of_covers 4 _ (by decide +kernel) fun t _ y => ?_
  have inner : (cfg0.win 4).xinj (cfg0.grid.coords t) y = y := rfl
  rw [after_4]
  exact (cast_eq _ _).trans ((congrArg (scores m c t) inner).trans ((scores_block m c t y).trans (congrArg _ (scores_place t y).symm)))

/-- The regression block of step `t` is the batch element's part of the mathematics. -/
theorem boxes_block (t : Fin cfg0.N) (y : S1x36x128x128.Idx) : boxes m c t y
    = boxesOf (arg m c main_arg0) (arg m c main_arg1) (arg m c main_arg2) (arg m c main_arg5) (arg m c main_arg6)
      (ix4 (batch t) (y 1) (y 2) (y 3)) := by
  have y0 : y 0 = (0 : Fin 1) := Fin.ext (by have : (y 0).val < 1 := (y 0).isLt; show (y 0).val = 0; omega)
  refine (congrArg (boxes m c t) ((eq_ix4 y).trans (congrArg (fun z => ix4 z _ _ _) y0))).trans
    ((boxes_apply m c t (y 1) (y 2) (y 3)).trans ?_)
  unfold output boxesOf
  rw [channel_eq, block_small, block_biases]
  exact congrArg₂ (head _) (funext fun o => small_boxes m c (y 1) o) (bias_boxes m c (y 1))

/-- Where window 5's block lies in the regression array. -/
theorem boxes_place (t : Fin cfg0.N) (y : S1x36x128x128.Idx) :
    ((cfg0.win 5).blk t).view.emb y = (ix4 (batch t) (y 1) (y 2) (y 3) : S8x36x128x128.Idx) := by
  obtain ⟨e0, e1, e2, e3⟩ := index_boxes t
  have y0 : (y 0).val < 1 := (y 0).isLt
  refine funext fun a => Fin.ext ?_
  match a with
  | 0 => show win0_5.index t 0 * 1 + 1 * (y 0).val = t.val; omega
  | 1 => show win0_5.index t 1 * 36 + 1 * (y 1).val = (y 1).val; omega
  | 2 => show win0_5.index t 2 * 128 + 1 * (y 2).val = (y 2).val; omega
  | 3 => show win0_5.index t 3 * 128 + 1 * (y 3).val = (y 3).val; omega

/-- The kernel's regression. -/
theorem final_boxes : (dats m 0 c).arrAt 5 cfg0.N
    = boxesOf (arg m c main_arg0) (arg m c main_arg1) (arg m c main_arg2) (arg m c main_arg5) (arg m c main_arg6) := by
  refine (dats m 0 c).arrAt_eq_of_covers 5 _ (by decide +kernel) fun t _ y => ?_
  have inner : (cfg0.win 5).xinj (cfg0.grid.coords t) y = y := rfl
  rw [after_5]
  exact (cast_eq _ _).trans ((congrArg (boxes m c t) inner).trans ((boxes_block m c t y).trans (congrArg _ (boxes_place t y).symm)))

/-- The kernel's run: both results as the mathematics, the arguments unchanged. -/
theorem results : θ_run defs (onTc (τ := τ) (main (F := Ideal))) ⟨m, fun _ => 0, ρ⟩ fun r => ∀ c : Dev nD,
    r.2.mem ((c.tc : Thread nD τ).loc main_v0_0)
        = scoresOf (arg m c main_arg0) (arg m c main_arg1) (arg m c main_arg2) (arg m c main_arg3) (arg m c main_arg4)
    ∧ r.2.mem ((c.tc : Thread nD τ).loc main_v0_1)
        = boxesOf (arg m c main_arg0) (arg m c main_arg1) (arg m c main_arg2) (arg m c main_arg5) (arg m c main_arg6)
    ∧ Kept m r.2.mem c :=
  (θ_run defs _ _).mono (fun _ h c => ⟨((h.1 c).1 4).trans (final_scores m c), ((h.1 c).1 5).trans (final_boxes m c), kept m h.1 c⟩)
    (launch m ρ)

end Cert.KernelIdeal.Step

end
-- ==== Proof.Reference.Taps.lean ====
/- One tap of the reference's convolution: a window of the bordered image times one 96×96 plane of the weights. -/
module

public import proofs.«01_k».proof.Proof.Spec
public import proofs.«01_k».proof.Proof.Gen.ReferenceIdeal.Read
public import Idealize.ShloMosaic.Lib.KernelVsHost

@[expose] public section

set_option maxRecDepth 16384

noncomputable section

namespace Cert.ReferenceIdeal.Taps

open Cert.ReferenceIdeal Cert.ReferenceIdeal.Gen Cert.ReferenceIdeal.Read Cert.Rpn
open Idealize.ShloMosaic Idealize.ShloMosaic.ValueIdx

variable (X : S8x96x128x128.Idx → EReal) (W : S96x96x3x3.Idx → EReal)

/-- The padding's value, an integer zero made real, is zero. -/
theorem border_zero (i : S_.Idx) : (val_main_call0_v0 (F := Ideal) i : EReal) = 0 := by
  show (((0#32 : BitVec 32).toInt : ℝ) : EReal) = 0
  simp

/-- The reference's padded image is the image with a border of zeros. -/
theorem padded (n : Fin 8) (c : Fin 96) (i j : Fin 130) :
    (val_main_v0 (F := Ideal) X : S8x96x130x130.Idx → EReal) (ix4 n c i j)
      = bordered (fun y x => X (ix4 n c y x)) i.val j.val := by
  unfold val_main_v0
  by_cases hi : 1 ≤ i.val ∧ i.val < 129
  · by_cases hj : 1 ≤ j.val ∧ j.val < 129
    · rw [bordered_inside _ hi.1 hi.2 hj.1 hj.2]
      exact pad_apply_of_inside _ _ _ _ _ _ _ _ (ix4 n c ⟨i.val - 1, by omega⟩ ⟨j.val - 1, by omega⟩) (fun a => by
        match a with
        | 0 => show n.val = 0 + n.val * (0 + 1); omega
        | 1 => show c.val = 0 + c.val * (0 + 1); omega
        | 2 => show i.val = 1 + (i.val - 1) * (0 + 1); omega
        | 3 => show j.val = 1 + (j.val - 1) * (0 + 1); omega)
    · rw [bordered_outside _ fun h => hj h.2]
      exact (pad_apply_of_not_inside _ _ _ _ _ _ _ _ 3 (by
        show ¬(1 ≤ j.val ∧ (j.val - 1) % (0 + 1) = 0 ∧ (j.val - 1) / (0 + 1) < 128); omega)).trans (border_zero _)
  · rw [bordered_outside _ fun h => hi h.1]
    exact (pad_apply_of_not_inside _ _ _ _ _ _ _ _ 2 (by
      show ¬(1 ≤ i.val ∧ (i.val - 1) % (0 + 1) = 0 ∧ (i.val - 1) / (0 + 1) < 128); omega)).trans (border_zero _)

/-- The product of an image by channel with a 96×96 plane: a sum over the input channels. -/
theorem product (Z : FVec Ideal S8x96x128x128 .f32) (U : FVec Ideal S96x96 .f32) (n : Fin 8) (i j : Fin 128) (o : Fin 96) :
    (Host.dotGeneral dot_S8x96x128x128_S96x96_S8x128x128x96_1_1_023_0_n_n none Z U : S8x128x128x96.Idx → EReal) (ix4 n i j o)
      = ∑ k : Fin 96, (Z (ix4 n k i j) : EReal) * (U (ix2 o k) : EReal) := by
  simp only [Host.dotGeneral]
  rw [Ideal.dotGeneral_apply,
    ← Equiv.sum_comp (contrEquiv1 dot_S8x96x128x128_S96x96_S8x128x128x96_1_1_023_0_n_n 96 rfl rfl).symm]
  refine Finset.sum_congr rfl fun k _ => ?_
  have at_k := contrEquiv1_symm_val dot_S8x96x128x128_S96x96_S8x128x128x96_1_1_023_0_n_n 96 rfl rfl k
  refine congrArg₂ (fun a b => (Z a : EReal) * (U b : EReal)) (funext fun a => Fin.ext ?_) (funext fun a => Fin.ext ?_)
  · match a with
    | 0 => exact lhs_main_v5_0 _ _
    | 1 => exact (lhs_main_v5_1 _ _).trans at_k
    | 2 => exact lhs_main_v5_2 _ _
    | 3 => exact lhs_main_v5_3 _ _
  · match a with
    | 0 => exact rhs_main_v5_0 _ _
    | 1 => exact (rhs_main_v5_1 _ _).trans at_k

/-- Tap `t` of the reference, its window `dy` rows down and `dx` columns right. -/
theorem tap_apply (t : Fin 9) (dy dx : ℕ) (ey : dy = t.val / 3) (ex : dx = t.val % 3)
    (hz : S8x96x130x130.Slices ![0, 0, dy, dx] S8x96x128x128) (hw : S96x96x3x3.Slices ![0, 0, dy, dx] S96x96x1x1)
    (n : Fin 8) (o : Fin 96) (i j : Fin 128) :
    (transpose S8x96x128x128 [0, 3, 1, 2] (Host.dotGeneral (F := Ideal) (φ₁ := .f32) (φ₂ := .f32) dot_S8x96x128x128_S96x96_S8x128x128x96_1_1_023_0_n_n none
        (extractStridedSlice S8x96x128x128 ![0, 0, dy, dx] (val_main_v0 (F := Ideal) X) hz)
        (shapeCast S96x96 (extractStridedSlice S96x96x1x1 ![0, 0, dy, dx] W hw) shapeCasts_S96x96x1x1_S96x96))
        transposes_S8x128x128x96_S8x96x128x128_0_3_1_2 : S8x96x128x128.Idx → EReal) (ix4 n o i j)
      = tap (fun c y x => X (ix4 n c y x)) (fun c t => W (ix4 o c ⟨t.val / 3, by omega⟩ ⟨t.val % 3, by omega⟩)) i.val j.val t := by
  subst ey ex
  refine (transpose_apply [0, 3, 1, 2] _ transposes_S8x128x128x96_S8x96x128x128_0_3_1_2 _ (ix4 n i j o) (fun b => by
    match b with | 0 => rfl | 1 => rfl | 2 => rfl | 3 => rfl)).trans ((product _ _ n i j o).trans ?_)
  refine Finset.sum_congr rfl fun k _ => congrArg₂ (fun a b : EReal => a * b) ?_ ?_
  · refine (extractStridedSlice_apply _ _ hz _ (ix4 n k ⟨i.val + t.val / 3, by omega⟩ ⟨j.val + t.val % 3, by omega⟩) (fun a => by
      match a with
      | 0 => show n.val = 0 + n.val; omega
      | 1 => show k.val = 0 + k.val; omega
      | 2 => show i.val + t.val / 3 = t.val / 3 + i.val; omega
      | 3 => show j.val + t.val % 3 = t.val % 3 + j.val; omega)).trans (padded X n k _ _)
  · refine (shapeCast_apply (s := S96x96x1x1) _ _ _ (ix4 o k 0 0) (by
      rw [Shape.rowMajor_val_four, Shape.rowMajor_val_two]
      show ((o.val * 96 + k.val) * 1 + 0) * 1 + 0 = o.val * 96 + k.val
      omega)).trans (extractStridedSlice_apply _ _ hw _ _ (fun a => by
      match a with
      | 0 => show o.val = 0 + o.val; omega
      | 1 => show k.val = 0 + k.val; omega
      | 2 => rfl
      | 3 => rfl))

end Cert.ReferenceIdeal.Taps

end
-- ==== Proof.Reference.Value.lean ====
/- The reference's two results, as the mathematics over its arguments. -/
module

public import proofs.«01_k».proof.Proof.Reference.Taps
public import Idealize.ShloMosaic.Lib.IdealHost
public import Idealize.ShloMosaic.PureOps.Ideal.Laws

@[expose] public section

set_option maxRecDepth 16384

noncomputable section

namespace Cert.ReferenceIdeal.Taps

open Cert.ReferenceIdeal Cert.ReferenceIdeal.Gen Cert.ReferenceIdeal.Read Cert.Rpn
open Idealize.ShloMosaic Idealize.ShloMosaic.TcCoe Idealize.ShloMosaic.ValueIdx

variable (X : S8x96x128x128.Idx → EReal) (W : S96x96x3x3.Idx → EReal) (b : S96.Idx → EReal)

/-- The nine taps, added from zero. -/
theorem convolution (n : Fin 8) (o : Fin 96) (i j : Fin 128) :
    (val_main_v55 (F := Ideal) X W : S8x96x128x128.Idx → EReal) (ix4 n o i j)
      = ∑ t : Fin 9, tap (fun c y x => X (ix4 n c y x)) (fun c t => W (ix4 o c ⟨t.val / 3, by omega⟩ ⟨t.val % 3, by omega⟩))
          i.val j.val t := by
  have start : (val_main_v1 (F := Ideal) (ix4 n o i j) : EReal) = 0 := (val_main_v1_apply _).trans Ideal.ofBits_zero_f32
  rw [Fin.sum_univ_castSucc, Fin.sum_univ_eight]
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) (congrArg₂ (fun a b : EReal => a + b)
    ((congrArg (fun a : EReal => a + _) start).trans ((zero_add _).trans ?_)) ?_) ?_) ?_) ?_) ?_) ?_) ?_) ?_
  · exact tap_apply X W 0 0 0 rfl rfl _ _ n o i j
  · exact tap_apply X W 1 0 1 rfl rfl _ _ n o i j
  · exact tap_apply X W 2 0 2 rfl rfl _ _ n o i j
  · exact tap_apply X W 3 1 0 rfl rfl _ _ n o i j
  · exact tap_apply X W 4 1 1 rfl rfl _ _ n o i j
  · exact tap_apply X W 5 1 2 rfl rfl _ _ n o i j
  · exact tap_apply X W 6 2 0 rfl rfl _ _ n o i j
  · exact tap_apply X W 7 2 1 rfl rfl _ _ n o i j
  · exact tap_apply X W 8 2 2 rfl rfl _ _ n o i j

/-- The rectified convolution. -/
theorem rectified (n : Fin 8) (o : Fin 96) (i j : Fin 128) :
    (val_main_v59 (F := Ideal) X W b : S8x96x128x128.Idx → EReal) (ix4 n o i j) = pixel X W b n i.val j.val o := by
  have bias : (val_main_v57 (F := Ideal) b (ix4 n o i j) : EReal) = b (ix1 o) := by
    rw [val_main_v57_apply, val_main_v56_apply]
    exact congrArg b (funext fun a => by match a with | 0 => rfl)
  have floor : (val_main_call1_v0 (F := Ideal) (ix4 n o i j) : EReal) = 0 :=
    (val_main_call1_v0_apply _).trans Ideal.ofBits_zero_f32
  exact congrArg₂ (fun a b : EReal => max a b) (congrArg₂ (fun a b : EReal => a + b) (convolution X W n o i j) bias) floor

/-- The nine-channel 1×1 convolution before the logistic. -/
theorem score_sum (Wc : S9x96x1x1.Idx → EReal) (bc : S9.Idx → EReal) (n : Fin 8) (o : Fin 9) (i j : Fin 128) :
    (val_main_v65 (F := Ideal) X W b Wc bc : S8x9x128x128.Idx → EReal) (ix4 n o i j)
      = head (pixel X W b n i.val j.val) (fun k => Wc (ix4 o k 0 0)) (bc (ix1 o)) := by
  refine congrArg₂ (fun a b : EReal => a + b) ?_ ?_
  · rw [val_main_v62_apply, val_main_v61_apply]
    refine Finset.sum_congr rfl fun k _ => congrArg₂ (fun a b : EReal => a * b) ?_ ?_
    · exact (congrArg (val_main_v59 (F := Ideal) X W b) (funext fun a => by
        match a with | 0 => rfl | 1 => rfl | 2 => rfl | 3 => rfl)).trans (rectified X W b n k i j)
    · rw [val_main_v60_apply]
      exact congrArg Wc (funext fun a => Fin.ext (by
        match a with
        | 0 => show (o.val * 96 + k.val) / 96 = o.val; omega
        | 1 => show (o.val * 96 + k.val) / 1 % 96 = k.val; omega
        | 2 => rfl
        | 3 => rfl))
  · rw [val_main_v64_apply, val_main_v63_apply]
    exact congrArg bc (funext fun a => by match a with | 0 => rfl)

/-- The reference's scores. -/
theorem scores_value (Wc : S9x96x1x1.Idx → EReal) (bc : S9.Idx → EReal) :
    (val_main_v71 (F := Ideal) X W b Wc bc : S8x9x128x128.Idx → EReal) = scoresOf X W b Wc bc := funext fun y => by
  have one : (val_main_v70 (F := Ideal) y : EReal) = 1 := (val_main_v70_apply _).trans Ideal.ofBits_one_f32
  have one' : (val_main_v68 (F := Ideal) y : EReal) = 1 := (val_main_v68_apply _).trans Ideal.ofBits_one_f32
  have sum : (val_main_v65 (F := Ideal) X W b Wc bc y : EReal)
      = head (pixel X W b (y 0) (y 2).val (y 3).val) (fun k => Wc (ix4 (y 1) k 0 0)) (bc (ix1 (y 1))) :=
    (congrArg (val_main_v65 (F := Ideal) X W b Wc bc) (eq_ix4 y)).trans (score_sum X W b Wc bc (y 0) (y 1) (y 2) (y 3))
  exact congrArg₂ Ideal.div one
    (congrArg₂ (fun a b : EReal => a + b) one' (congrArg (fun z : EReal => Ideal.exp (-z)) sum))

/-- The reference's regression. -/
theorem boxes_value (Wr : S36x96x1x1.Idx → EReal) (br : S36.Idx → EReal) :
    (val_main_v77 (F := Ideal) X W b Wr br : S8x36x128x128.Idx → EReal) = boxesOf X W b Wr br := funext fun y => by
  refine congrArg₂ (fun a b : EReal => a + b) ?_ ?_
  · rw [val_main_v74_apply, val_main_v73_apply]
    refine Finset.sum_congr rfl fun k _ => congrArg₂ (fun a b : EReal => a * b) ?_ ?_
    · exact (congrArg (val_main_v59 (F := Ideal) X W b) (funext fun a => by
        match a with | 0 => rfl | 1 => rfl | 2 => rfl | 3 => rfl)).trans (rectified X W b (y 0) k (y 2) (y 3))
    · rw [val_main_v72_apply]
      have o_lt : (y 1).val < 36 := (y 1).isLt
      exact congrArg Wr (funext fun a => Fin.ext (by
        match a with
        | 0 => show ((y 1).val * 96 + k.val) / 96 = (y 1).val; omega
        | 1 => show ((y 1).val * 96 + k.val) / 1 % 96 = k.val; omega
        | 2 => rfl
        | 3 => rfl))
  · rw [val_main_v76_apply, val_main_v75_apply]
    exact congrArg br (funext fun a => by match a with | 0 => rfl)

/-- What the reference leaves in its two result buffers, over the memory it starts from. -/
theorem results (m : (ℓ : Loc nD τ sig) → Buf (Elt Ideal) ℓ) (c : Dev nD) :
    (Value.res_main_v71 m c : S8x9x128x128.Idx → EReal) = scoresOf (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
    ∧ (Value.res_main_v77 m c : S8x36x128x128.Idx → EReal) = boxesOf (m ((c.tc : Thread nD τ).loc main_arg0))
        (m ((c.tc : Thread nD τ).loc main_arg1)) (m ((c.tc : Thread nD τ).loc main_arg2)) (m ((c.tc : Thread nD τ).loc main_arg5))
        (m ((c.tc : Thread nD τ).loc main_arg6)) :=
  ⟨(val_main_v71_eq m c).trans (scores_value _ _ _ _ _), (val_main_v77_eq m c).trans (boxes_value _ _ _ _ _)⟩

end Cert.ReferenceIdeal.Taps

end
-- ==== Proof.Equation.lean ====
/- The equation: from memories that agree on the arguments, the kernel's two results are the reference's. -/
module

public import proofs.«01_k».proof.Defs
public import proofs.«01_k».proof.Proof.Ideal.Final
public import proofs.«01_k».proof.Proof.Reference.Value

@[expose] public section

noncomputable section

namespace Cert.Rpn

open Idealize.ShloMosaic Idealize.ShloMosaic.TcCoe Idealize.SL.Sem

/-- Both programs leave the scores and the regression of the same arguments. -/
theorem equation : Cert.algebraic_KernelIdeal_ReferenceIdeal (hKernelIdeal := Cert.KernelIdeal.Gen.facts)
    (hReferenceIdeal := Cert.ReferenceIdeal.Gen.facts) := by
  intro m g m' g' _ agree
  refine ⟨_, _, Cert.KernelIdeal.Step.results m g,
    (θ_run _ _ _).mono (fun r h c => ?_) (Cert.ReferenceIdeal.Value.run m' g')⟩
  obtain ⟨a0, a1, a2, a3, a4, a5, a6⟩ := agree c
  obtain ⟨scores, boxes⟩ := Cert.ReferenceIdeal.Taps.results m' c
  refine ⟨(h c).1.trans (scores.trans ?_), (h c).2.1.trans (boxes.trans ?_), (h c).2.2⟩
  · rw [a0, a1, a2, a3, a4]
  · rw [a0, a1, a2, a5, a6]

end Cert.Rpn

end
-- ==== Proof.lean ====
/- The claims: the three programs run to the end and leave their arguments alone, the idealized kernel is the kernel's own
   text, and at the extended reals the kernel's two results are the reference's. -/
module

public import proofs.«01_k».proof.Defs
public import proofs.«01_k».proof.Proof.Gen.Kernel
public import proofs.«01_k».proof.Proof.Gen.Kernel.Launch
public import proofs.«01_k».proof.Proof.Gen.Kernel.Skeleton
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Launch
public import proofs.«01_k».proof.Proof.Bits.Launch
public import proofs.«01_k».proof.Proof.Equation
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Step.frame m g, fun m g _ => Cert.KernelIdeal.Step.frame m g,
  fun m g _ => (θ_run _ _ _).mono (fun r h => ⟨fun c => (h c).2.2, sem_eq_zero_of_no_sems (by decide) r.2⟩)
    (Cert.ReferenceIdeal.Value.run m g),
  trivial, Cert.Rpn.equation⟩

end Cert.Proof

end
